-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v71) = v3 c
          ∧ r.2.mem ((c.tc : Thread Cert.Reference2Ideal.nD Cert.Reference2Ideal.τ).loc Cert.Reference2Ideal.main_v69) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "log2_e" .f32 0x3FB8AA3B#32 (((Real.log 2)⁻¹ : ℝ) : EReal)

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S16384x9216 : Shape := ⟨2, ![16384, 9216]⟩
abbrev S3x8x16384x128 : Shape := ⟨4, ![3, 8, 16384, 128]⟩
abbrev S16384x2048 : Shape := ⟨2, ![16384, 2048]⟩
abbrev S_ : Shape := ⟨0, ![]⟩

class Facts : Prop where
  slices_S16384x9216_S16384x2048_0_0 : S16384x9216.Slices ![0, 0] S16384x2048
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S3x8x16384x128 : S_.BroadcastsInDim S3x8x16384x128 (![] : Fin 0 → Fin S3x8x16384x128.rank)
  reducesTo_S3x8x16384x128_S_d0_1_2_3 : S3x8x16384x128.ReducesTo [0, 1, 2, 3] S_

variable [Facts]

def fn_part1 {F : FTy → Type} [FloatOps F] (main_v5 : IVec S_ 1) (main_v17 : IVec S_ 1) : IVec S_ 1 :=
  let main_v18 : IVec S_ 1 := andi main_v5 main_v17
  main_v18

def fn {F : FTy → Type} [FloatOps F] (main_arg0 : FVec F S16384x9216 .bf16) (main_arg1 : FVec F S3x8x16384x128 .bf16) (main_arg2 : FVec F S3x8x16384x128 .f32) : IVec S_ 1 :=
  let main_v0 : FVec F S16384x2048 .bf16 := (extractStridedSlice S16384x2048 ![0, 0] · slices_S16384x9216_S16384x2048_0_0) main_arg0
  let main_v1 : FVec F S16384x2048 .f32 := (extf .f32 · bitsLt_bf16_f32) main_v0
  let main_v2 : FVec F S16384x2048 .f32 := Host.absf main_v1
  let main_cst : FVec F S_ .f32 := constant S_ .f32 0x7F800000#32
  let main_v3 : FVec F S16384x2048 .f32 := broadcastInDim S16384x2048 ![] bcast_S_S16384x2048 main_cst
  let main_v4 : IVec S16384x2048 1 := cmpf .olt main_v2 main_v3
  let main_c : IVec S_ 1 := constantI S_ 1 1#1
  let main_v5 : IVec S_ 1 := (fun x v => Host.reduce IntOp.andi x v reducesTo_S16384x2048_S_d0_1 h_S_) main_v4 main_c
  let main_cst_0 : FVec F S_ .f32 := constant S_ .f32 0x7F800000#32
  let main_v6 : FVec F S3x8x16384x128 .f32 := broadcastInDim S3x8x16384x128 ![] bcast_S_S3x8x16384x128 main_cst_0
  let main_v7 : IVec S3x8x16384x128 1 := cmpf .olt main_arg2 main_v6
  let main_v8 : IVec S3x8x16384x128 32 := iotaInDim S3x8x16384x128 32 0
  let main_v9 : IVec S3x8x16384x128 32 := iotaInDim S3x8x16384x128 32 2
  let main_c_1 : IVec S_ 32 := constantI S_ 32 1#32
  let main_v10 : IVec S3x8x16384x128 32 := broadcastInDim S3x8x16384x128 ![] bcast_S_S3x8x16384x128 main_c_1
  let main_v11 : IVec S3x8x16384x128 32 := addi main_v8 main_v10
  let main_c_2 : IVec S_ 32 := constantI S_ 32 256#32
  let main_v12 : IVec S3x8x16384x128 32 := broadcastInDim S3x8x16384x128 ![] bcast_S_S3x8x16384x128 main_c_2
  let main_v13 : IVec S3x8x16384x128 32 := muli main_v12 main_v11
  let main_v14 : IVec S3x8x16384x128 1 := cmpi .sle main_v13 main_v9
  let main_v15 : IVec S3x8x16384x128 1 := noti main_v14
  let main_v16 : IVec S3x8x16384x128 1 := ori main_v7 main_v15
  let main_c_3 : IVec S_ 1 := constantI S_ 1 1#1
  let main_v17 : IVec S_ 1 := (fun x v => Host.reduce IntOp.andi x v reducesTo_S3x8x16384x128_S_d0_1_2_3 h_S_) main_v16 main_c_3
  fn_part1 (F := F) main_v5 main_v17
-- ==== Kernel.lean ====
abbrev S16384x1024 : Shape := ⟨2, ![16384, 1024]⟩
abbrev S16384x9216 : Shape := ⟨2, ![16384, 9216]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 20
  | .vmem => 21
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x9216, .bf16⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16384x1024 : Shape := ⟨2, ![16384, 1024]⟩
abbrev S16384x9216 : Shape := ⟨2, ![16384, 9216]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x9216, .bf16⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .bf16⟩
  | .hbm, ⟨16, _⟩ => ⟨S16384x1024, .f32⟩
  | .hbm, ⟨17, _⟩ => ⟨S16384x1024, .bf16⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S_, .f32⟩
  | .hbm, ⟨76, _⟩ => ⟨S16384x2816, .f32⟩
  | .hbm, ⟨77, _⟩ => ⟨S16384x2816, .f32⟩
  | .hbm, ⟨78, _⟩ => ⟨S_, .f32⟩
  | .hbm, ⟨79, _⟩ => ⟨S16384x2816, .f32⟩
  | .hbm, ⟨80, _⟩ => ⟨S16384x2816, .f32⟩
  | .hbm, ⟨81, _⟩ => ⟨S16384x2816, .f32⟩
  | .hbm, ⟨82, _⟩ => ⟨S16384x2816, .f32⟩
  | .hbm, ⟨83, _⟩ => ⟨S16384x2816, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x9232 : Shape := ⟨2, ![1024, 9232]⟩
abbrev S16384x128 : Shape := ⟨2, ![16384, 128]⟩
abbrev S9232x1024 : Shape := ⟨2, ![9232, 1024]⟩
abbrev S16384x9216 : Shape := ⟨2, ![16384, 9216]⟩
abbrev S32x2x1024 : Shape := ⟨3, ![32, 2, 1024]⟩
abbrev S8x64x144x256 : Shape := ⟨4, ![8, 64, 144, 256]⟩
abbrev S8x16384x128 : Shape := ⟨3, ![8, 16384, 128]⟩
abbrev S512x1024 : Shape := ⟨2, ![512, 1024]⟩
abbrev S512x128 : Shape := ⟨2, ![512, 128]⟩
abbrev S512x9216 : Shape := ⟨2, ![512, 9216]⟩
abbrev S1x2x1024 : Shape := ⟨3, ![1, 2, 1024]⟩
abbrev S8x2x144x256 : Shape := ⟨4, ![8, 2, 144, 256]⟩
abbrev S8x512x128 : Shape := ⟨3, ![8, 512, 128]⟩
abbrev S512 : Shape := ⟨1, ![512]⟩
abbrev S512x1 : Shape := ⟨2, ![512, 1]⟩
abbrev S128x1024 : Shape := ⟨2, ![128, 1024]⟩
abbrev S1024x1024 : Shape := ⟨2, ![1024, 1024]⟩
abbrev S1x512x128 : Shape := ⟨3, ![1, 512, 128]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x9232, .f32⟩
  | .hbm, ⟨3, _⟩ => ⟨S16384x128, .f32⟩
  | .hbm, ⟨4, _⟩ => ⟨S9232x1024, .f32⟩
  | .hbm, ⟨5, _⟩ => ⟨S9232x1024, .bf16⟩
  | .hbm, ⟨6, _⟩ => ⟨S16384x9216, .bf16⟩
  | .hbm, ⟨7, _⟩ => ⟨S16384x128, .f32⟩
  | .hbm, ⟨8, _⟩ => ⟨S32x2x1024, .f32⟩
  | .hbm, ⟨9, _⟩ => ⟨S8x64x144x256, .bf16⟩
  | .hbm, ⟨10, _⟩ => ⟨S8x16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S9232x1024, .bf16⟩
  | .local _ .vmem, ⟨4, _⟩ => ⟨S512x128, .f32⟩
  | .local _ .vmem, ⟨5, _⟩ => ⟨S512x128, .f32⟩
  | .local _ .vmem, ⟨6, _⟩ => ⟨S512x9216, .bf16⟩
  | .local _ .vmem, ⟨7, _⟩ => ⟨S512x9216, .bf16⟩
  | .local _ .vmem, ⟨8, _⟩ => ⟨S512x128, .f32⟩
  | .local _ .vmem, ⟨9, _⟩ => ⟨S512x128, .f32⟩
  | .local _ .vmem, ⟨10, _⟩ => ⟨S1x2x1024, .f32⟩
  | .local _ .vmem, ⟨11, _⟩ => ⟨S1x2x1024, .f32⟩
  | .local _ .vmem, ⟨12, _⟩ => ⟨S8x2x144x256, .bf16⟩
  | .local _ .vmem, ⟨13, _⟩ => ⟨S8x2x144x256, .bf16⟩
  | .local _ .vmem, ⟨14, _⟩ => ⟨S8x512x128, .f32⟩
  | .local _ .vmem, ⟨15, _⟩ => ⟨S8x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9232x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x9216 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2x144x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S1x1024 : Shape := ⟨2, ![1, 1024]⟩
abbrev S1024x9232 : Shape := ⟨2, ![1024, 9232]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x9232 : Shape := ⟨2, ![16384, 9232]⟩
abbrev S16384x16 : Shape := ⟨2, ![16384, 16]⟩
abbrev S16384x1x16 : Shape := ⟨3, ![16384, 1, 16]⟩
abbrev S16384x8x128 : Shape := ⟨3, ![16384, 8, 128]⟩
abbrev S16384x8x16 : Shape := ⟨3, ![16384, 8, 16]⟩
abbrev S16384x8x32 : Shape := ⟨3, ![16384, 8, 32]⟩
abbrev S16384x8x96 : Shape := ⟨3, ![16384, 8, 96]⟩
abbrev S64x256x8x128 : Shape := ⟨4, ![64, 256, 8, 128]⟩
abbrev S16384x5120 : Shape := ⟨2, ![16384, 5120]⟩
abbrev S16384x2048 : Shape := ⟨2, ![16384, 2048]⟩
abbrev S16384x9216 : Shape := ⟨2, ![16384, 9216]⟩
abbrev S32x2x256x1024 : Shape := ⟨4, ![32, 2, 256, 1024]⟩
abbrev S32x2x1024 : Shape := ⟨3, ![32, 2, 1024]⟩
abbrev S8x64x128x256 : Shape := ⟨4, ![8, 64, 128, 256]⟩
abbrev S8x64x16x256 : Shape := ⟨4, ![8, 64, 16, 256]⟩
abbrev S8x64x144x256 : Shape := ⟨4, ![8, 64, 144, 256]⟩
abbrev S8x16384x128 : Shape := ⟨3, ![8, 16384, 128]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x9232, .f32⟩
  | .hbm, ⟨3, _⟩ => ⟨S16384x128, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x9232, .f32⟩
  | .hbm, ⟨20, _⟩ => ⟨S16384x16, .f32⟩
  | .hbm, ⟨21, _⟩ => ⟨S16384x1x16, .f32⟩
  | .hbm, ⟨22, _⟩ => ⟨S16384x16, .f32⟩
  | .hbm, ⟨23, _⟩ => ⟨S16384x1x16, .f32⟩
  | .hbm, ⟨24, _⟩ => ⟨S16384x1024, .f32⟩
  | .hbm, ⟨25, _⟩ => ⟨S16384x8x128, .f32⟩
  | .hbm, ⟨26, _⟩ => ⟨S16384x8x16, .f32⟩
  | .hbm, ⟨27, _⟩ => ⟨S16384x8x16, .f32⟩
  | .hbm, ⟨28, _⟩ => ⟨S16384x8x16, .f32⟩
  | .hbm, ⟨29, _⟩ => ⟨S16384x8x16, .f32⟩
  | .hbm, ⟨30, _⟩ => ⟨S16384x8x16, .f32⟩
  | .hbm, ⟨31, _⟩ => ⟨S16384x8x16, .f32⟩
  | .hbm, ⟨32, _⟩ => ⟨S16384x8x16, .f32⟩
  | .hbm, ⟨33, _⟩ => ⟨S16384x8x16, .f32⟩
  | .hbm, ⟨34, _⟩ => ⟨S16384x8x16, .f32⟩
  | .hbm, ⟨35, _⟩ => ⟨S16384x8x16, .f32⟩
  | .hbm, ⟨36, _⟩ => ⟨S16384x8x16, .f32⟩
  | .hbm, ⟨37, _⟩ => ⟨S16384x8x16, .f32⟩
  | .hbm, ⟨38, _⟩ => ⟨S16384x8x32, .f32⟩
  | .hbm, ⟨39, _⟩ => ⟨S16384x8x96, .f32⟩
  | .hbm, ⟨40, _⟩ => ⟨S16384x8x128, .f32⟩
  | .hbm, ⟨41, _⟩ => ⟨S_, .f32⟩
  | .hbm, ⟨42, _⟩ => ⟨S16384x8x128, .f32⟩
  | .hbm, ⟨43, _⟩ => ⟨S16384x8x128, .f32⟩
  | .hbm, ⟨44, _⟩ => ⟨S16384x1024, .f32⟩
  | .hbm, ⟨45, _⟩ => ⟨S16384x8x128, .f32⟩
  | .hbm, ⟨46, _⟩ => ⟨S16384x8x16, .f32⟩
  | .hbm, ⟨47, _⟩ => ⟨S16384x8x16, .f32⟩
  | .hbm, ⟨48, _⟩ => ⟨S16384x8x16, .f32⟩
  | .hbm, ⟨49, _⟩ => ⟨S16384x8x16, .f32⟩
  | .hbm, ⟨50, _⟩ => ⟨S16384x8x16, .f32⟩
  | .hbm, ⟨51, _⟩ => ⟨S16384x8x16, .f32⟩
  | .hbm, ⟨52, _⟩ => ⟨S16384x8x16, .f32⟩
  | .hbm, ⟨53, _⟩ => ⟨S16384x8x16, .f32⟩
  | .hbm, ⟨54, _⟩ => ⟨S16384x8x16, .f32⟩
  | .hbm, ⟨55, _⟩ => ⟨S16384x8x16, .f32⟩
  | .hbm, ⟨56, _⟩ => ⟨S16384x8x16, .f32⟩
  | .hbm, ⟨57, _⟩ => ⟨S16384x8x16, .f32⟩
  | .hbm, ⟨58, _⟩ => ⟨S16384x8x32, .f32⟩
  | .hbm, ⟨59, _⟩ => ⟨S16384x8x96, .f32⟩
  | .hbm, ⟨60, _⟩ => ⟨S16384x8x128, .f32⟩
  | .hbm, ⟨61, _⟩ => ⟨S16384x1024, .f32⟩
  | .hbm, ⟨62, _⟩ => ⟨S64x256x8x128, .f32⟩
  | .hbm, ⟨63, _⟩ => ⟨S16384x1024, .f32⟩
  | .hbm, ⟨64, _⟩ => ⟨S16384x1024, .f32⟩
  | .hbm, ⟨65, _⟩ => ⟨S16384x5120, .f32⟩
  | .hbm, ⟨66, _⟩ => ⟨S16384x2048, .f32⟩
  | .hbm, ⟨67, _⟩ => ⟨S16384x9216, .f32⟩
  | .hbm, ⟨68, _⟩ => ⟨S16384x16, .f32⟩
  | .hbm, ⟨69, _⟩ => ⟨S_, .i32⟩
  | .hbm, ⟨70, _⟩ => ⟨S_, .f32⟩
  | .hbm, ⟨71, _⟩ => ⟨S16384x128, .f32⟩
  | .hbm, ⟨72, _⟩ => ⟨S32x2x256x1024, .f32⟩
  | .hbm, ⟨73, _⟩ => ⟨S_, .f32⟩
  | .hbm, ⟨74, _⟩ => ⟨S32x2x1024, .f32⟩
  | .hbm, ⟨75, _⟩ => ⟨S_, .f32⟩
  | .hbm, ⟨76, _⟩ => ⟨S32x2x1024, .f32⟩
  | .hbm, ⟨77, _⟩ => ⟨S32x2x1024, .f32⟩
  | .hbm, ⟨78, _⟩ => ⟨S8x64x128x256, .f32⟩
  | .hbm, ⟨79, _⟩ => ⟨S_, .f32⟩
  | .hbm, ⟨80, _⟩ => ⟨S8x64x16x256, .f32⟩
  | .hbm, ⟨81, _⟩ => ⟨S8x64x144x256, .f32⟩
  | .hbm, ⟨82, _⟩ => ⟨S8x16384x128, .f32⟩
  | .hbm, ⟨83, _⟩ => ⟨S16384x9216, .bf16⟩
  | .hbm, ⟨84, _⟩ => ⟨S8x64x144x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_c : Ref sig .tc := ⟨.hbm, 69, rfl⟩
abbrev main_call0_v0 : Ref sig .tc := ⟨.hbm, 70, rfl⟩
abbrev main_v61 : Ref sig .tc := ⟨.hbm, 71, rfl⟩
abbrev main_v62 : Ref sig .tc := ⟨.hbm, 72, rfl⟩
abbrev main_cst_3 : Ref sig .tc := ⟨.hbm, 73, rfl⟩
abbrev main_v63 : Ref sig .tc := ⟨.hbm, 74, rfl⟩
abbrev main_cst_4 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_5 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩

abbrev nD : Nat := 1
abbrev τ : Topo := Topo.v7x

variable {F : FTy → Type} [FloatOps F]
-- ==== Kernel3.lean ====
abbrev S16384x9216 : Shape := ⟨2, ![16384, 9216]⟩
abbrev S3x8x16384x128 : Shape := ⟨4, ![3, 8, 16384, 128]⟩
abbrev S16384x1024 : Shape := ⟨2, ![16384, 1024]⟩
abbrev S512x1024 : Shape := ⟨2, ![512, 1024]⟩
abbrev S3x8x512x128 : Shape := ⟨4, ![3, 8, 512, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 4
  | .vmem => 12
  | .smem => 0
  | _ => 0

abbrev bufTy : (tb : Table) → Fin (tcTables nBuf tb) → BufTy
  | .hbm, ⟨0, _⟩ => ⟨S16384x9216, .bf16⟩
  | .hbm, ⟨1, _⟩ => ⟨S3x8x16384x128, .bf16⟩
  | .hbm, ⟨2, _⟩ => ⟨S3x8x16384x128, .f32⟩
  | .hbm, ⟨3, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x8x512x128, .bf16⟩
  | .local _ .vmem, ⟨7, _⟩ => ⟨S3x8x512x128, .bf16⟩
  | .local _ .vmem, ⟨8, _⟩ => ⟨S3x8x512x128, .f32⟩
  | .local _ .vmem, ⟨9, _⟩ => ⟨S3x8x512x128, .f32⟩
  | .local _ .vmem, ⟨10, _⟩ => ⟨S512x1024, .bf16⟩
  | .local _ .vmem, ⟨11, _⟩ => ⟨S512x1024, .bf16⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel3Ideal.lean ====
variable {F : FTy → Type} [FloatOps F] [Named F]
def κ : String → Option EReal := fun
  | "log2_e" => some (((Real.log 2)⁻¹ : ℝ) : EReal)
  | _ => none
-- ==== Reference3Ideal.lean ====
abbrev S16384x9216 : Shape := ⟨2, ![16384, 9216]⟩
abbrev S3x8x16384x128 : Shape := ⟨4, ![3, 8, 16384, 128]⟩
abbrev S16384x1024 : Shape := ⟨2, ![16384, 1024]⟩
abbrev S64x256x8x128 : Shape := ⟨4, ![64, 256, 8, 128]⟩
abbrev S64x8x256x256 : Shape := ⟨4, ![64, 8, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S64x8x128x256 : Shape := ⟨4, ![64, 8, 128, 256]⟩
abbrev S16384x8x128 : Shape := ⟨3, ![16384, 8, 128]⟩
abbrev S64x8x256 : Shape := ⟨3, ![64, 8, 256]⟩
abbrev S64x256x8 : Shape := ⟨3, ![64, 256, 8]⟩
abbrev S16384x8x1 : Shape := ⟨3, ![16384, 8, 1]⟩
abbrev S8x16384x128 : Shape := ⟨3, ![8, 16384, 128]⟩

abbrev nBuf : Space → Nat
  | .hbm => 81
  | .vmem => 0
  | .smem => 0
  | _ => 0

abbrev bufTy : (tb : Table) → Fin (tcTables nBuf tb) → BufTy
  | .hbm, ⟨0, _⟩ => ⟨S16384x9216, .bf16⟩
  | .hbm, ⟨1, _⟩ => ⟨S3x8x16384x128, .bf16⟩
  | .hbm, ⟨2, _⟩ => ⟨S3x8x16384x128, .f32⟩
  | .hbm, ⟨3, _⟩ => ⟨S16384x1024, .bf16⟩
  | .hbm, ⟨4, _⟩ => ⟨S16384x1024, .f32⟩
  | .hbm, ⟨5, _⟩ => ⟨S64x256x8x128, .f32⟩
  | .hbm, ⟨6, _⟩ => ⟨S16384x1024, .bf16⟩
  | .hbm, ⟨7, _⟩ => ⟨S16384x1024, .f32⟩
  | .hbm, ⟨8, _⟩ => ⟨S64x256x8x128, .f32⟩
  | .hbm, ⟨9, _⟩ => ⟨S16384x1024, .bf16⟩
  | .hbm, ⟨10, _⟩ => ⟨S16384x1024, .f32⟩
  | .hbm, ⟨11, _⟩ => ⟨S64x256x8x128, .f32⟩
  | .hbm, ⟨12, _⟩ => ⟨S64x8x256x256, .f32⟩
  | .hbm, ⟨13, _⟩ => ⟨S256, .i32⟩
  | .hbm, ⟨14, _⟩ => ⟨S1x256, .i32⟩
  | .hbm, ⟨15, _⟩ => ⟨S256x1, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S_, .f32⟩
  | .hbm, ⟨20, _⟩ => ⟨S_, .f32⟩
  | .hbm, ⟨21, _⟩ => ⟨S64x8x256x256, .f32⟩
  | .hbm, ⟨22, _⟩ => ⟨S64x8x256x256, .f32⟩
  | .hbm, ⟨23, _⟩ => ⟨S64x8x256x256, .f32⟩
  | .hbm, ⟨24, _⟩ => ⟨S_, .f32⟩
  | .hbm, ⟨25, _⟩ => ⟨S_, .f32⟩
  | .hbm, ⟨26, _⟩ => ⟨S64x8x256x256, .i1⟩
  | .hbm, ⟨27, _⟩ => ⟨S64x8x256x256, .f32⟩
  | .hbm, ⟨28, _⟩ => ⟨S64x8x256x256, .f32⟩
  | .hbm, ⟨29, _⟩ => ⟨S64x8x128x256, .f32⟩
  | .hbm, ⟨30, _⟩ => ⟨S64x256x8x128, .f32⟩
  | .hbm, ⟨31, _⟩ => ⟨S16384x8x128, .f32⟩
  | .hbm, ⟨32, _⟩ => ⟨S_, .f32⟩
  | .hbm, ⟨33, _⟩ => ⟨S64x8x256, .f32⟩
  | .hbm, ⟨34, _⟩ => ⟨S64x256x8, .f32⟩
  | .hbm, ⟨35, _⟩ => ⟨S16384x8x1, .f32⟩
  | .hbm, ⟨36, _⟩ => ⟨S3x8x16384x128, .i32⟩
  | .hbm, ⟨37, _⟩ => ⟨S3x8x16384x128, .i32⟩
  | .hbm, ⟨38, _⟩ => ⟨S_, .i32⟩
  | .hbm, ⟨39, _⟩ => ⟨S3x8x16384x128, .i32⟩
  | .hbm, ⟨40, _⟩ => ⟨S3x8x16384x128, .i32⟩
  | .hbm, ⟨41, _⟩ => ⟨S_, .i32⟩
  | .hbm, ⟨42, _⟩ => ⟨S3x8x16384x128, .i32⟩
  | .hbm, ⟨43, _⟩ => ⟨S3x8x16384x128, .i32⟩
  | .hbm, ⟨44, _⟩ => ⟨S3x8x16384x128, .i1⟩
  | .hbm, ⟨45, _⟩ => ⟨S_, .f32⟩
  | .hbm, ⟨46, _⟩ => ⟨S_, .f32⟩
  | .hbm, ⟨47, _⟩ => ⟨S3x8x16384x128, .f32⟩
  | .hbm, ⟨48, _⟩ => ⟨S3x8x16384x128, .f32⟩
  | .hbm, ⟨49, _⟩ => ⟨S3x8x16384x128, .f32⟩
  | .hbm, ⟨50, _⟩ => ⟨S_, .f32⟩
  | .hbm, ⟨51, _⟩ => ⟨S_, .f32⟩
  | .hbm, ⟨52, _⟩ => ⟨S3x8x16384x128, .f32⟩
  | .hbm, ⟨53, _⟩ => ⟨S3x8x16384x128, .f32⟩
  | .hbm, ⟨54, _⟩ => ⟨S3x8x16384x128, .i32⟩
  | .hbm, ⟨55, _⟩ => ⟨S3x8x16384x128, .i32⟩
  | .hbm, ⟨56, _⟩ => ⟨S_, .i32⟩
  | .hbm, ⟨57, _⟩ => ⟨S3x8x16384x128, .i32⟩
  | .hbm, ⟨58, _⟩ => ⟨S3x8x16384x128, .i32⟩
  | .hbm, ⟨59, _⟩ => ⟨S_, .i32⟩
  | .hbm, ⟨60, _⟩ => ⟨S3x8x16384x128, .i32⟩
  | .hbm, ⟨61, _⟩ => ⟨S3x8x16384x128, .i32⟩
  | .hbm, ⟨62, _⟩ => ⟨S3x8x16384x128, .i1⟩
  | .hbm, ⟨63, _⟩ => ⟨S3x8x16384x128, .f32⟩
  | .hbm, ⟨64, _⟩ => ⟨S_, .f32⟩
  | .hbm, ⟨65, _⟩ => ⟨S_, .f32⟩
  | .hbm, ⟨66, _⟩ => ⟨S3x8x16384x128, .f32⟩
  | .hbm, ⟨67, _⟩ => ⟨S3x8x16384x128, .f32⟩
  | .hbm, ⟨68, _⟩ => ⟨S3x8x16384x128, .f32⟩
  | .hbm, ⟨69, _⟩ => ⟨S_, .f32⟩
  | .hbm, ⟨70, _⟩ => ⟨S8x16384x128, .f32⟩
  | .hbm, ⟨71, _⟩ => ⟨S16384x8x128, .f32⟩
  | .hbm, ⟨72, _⟩ => ⟨S16384x8x128, .f32⟩
  | .hbm, ⟨73, _⟩ => ⟨S_, .f32⟩
  | .hbm, ⟨74, _⟩ => ⟨S8x16384x128, .f32⟩
  | .hbm, ⟨75, _⟩ => ⟨S16384x8x128, .f32⟩
  | .hbm, ⟨76, _⟩ => ⟨S16384x8x128, .f32⟩
  | .hbm, ⟨77, _⟩ => ⟨S16384x8x128, .f32⟩
  | .hbm, ⟨78, _⟩ => ⟨S16384x8x128, .f32⟩
  | .hbm, ⟨79, _⟩ => ⟨S16384x1024, .f32⟩
  | .hbm, ⟨80, _⟩ => ⟨S16384x1024, .bf16⟩
  | _, _ => ⟨S16384x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_call2_v0 : Ref sig .tc := ⟨.hbm, 65, rfl⟩
abbrev main_call2_v1 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proof.FfnModel.lean ====
module

public import Idealize.ShloMosaic.Lib.Pointwise

/-! # One row of the mixing and feed-forward step, over the extended reals

The step works on every row of the sequence on its own.  This file says what it makes of one row: the two gated
projections added, the output projection, the residual with its root-mean-square norm, the gated feed-forward
layer and the second residual.  Both programs are shown to compute `Ffn.out` row by row. -/

@[expose] public section

noncomputable section

namespace Cert.Ffn

open Idealize.ShloMosaic Idealize.SL.Sem

/-- Row `r` of a matrix. -/
abbrev row {a b : ℕ} (A : (⟨2, ![a, b]⟩ : Shape).Idx → EReal) (r : Fin a) : Fin b → EReal := fun n => A (ix2 r n)

/-- A matrix by its two coordinates. -/
abbrev mat {a b : ℕ} (A : (⟨2, ![a, b]⟩ : Shape).Idx → EReal) : Fin a → Fin b → EReal := fun r n => A (ix2 r n)

/-- The width of a row as the f32 constant the mean divides by. -/
def width : EReal := Ideal.ofBits FTy.f32 1149239296#32

/-- The small constant added under the square root. -/
def eps : EReal := Ideal.ofBits FTy.f32 897988541#32

/-- The logistic function. -/
def sg (x : EReal) : EReal := Ideal.div 1 (1 + Ideal.exp (-x))

/-- A row times a matrix. -/
def lin {a b : ℕ} (v : Fin a → EReal) (w : Fin a → Fin b → EReal) (n : Fin b) : EReal := ∑ k, v k * w k n

/-- The root-mean-square norm of a row, scaled lane by lane. -/
def rms (v w : Fin 1024 → EReal) (n : Fin 1024) : EReal :=
  v n * Ideal.rsqrt (Ideal.div (∑ k, v k * v k) width + eps) * w n

/-- The two branches' projections under their gates, added and projected. -/
def mixed (ya yd ga gd : Fin 1024 → EReal) (wa wd wo : Fin 1024 → Fin 1024 → EReal) : Fin 1024 → EReal :=
  lin (fun n => sg (ga n) * lin ya wa n + sg (gd n) * lin yd wd n) wo

/-- The row after the first residual. -/
def mid (x mo nmix : Fin 1024 → EReal) (n : Fin 1024) : EReal := x n + rms mo nmix n

/-- One summand of the feed-forward layer's output lane `n`: hidden unit `f`. -/
def unit (h : Fin 1024 → EReal) (wg wu : Fin 1024 → Fin 2816 → EReal) (wdn : Fin 2816 → Fin 1024 → EReal)
    (n : Fin 1024) (f : Fin 2816) : EReal :=
  (lin h wg f * sg (lin h wg f) * lin h wu f) * wdn f n

/-- The feed-forward layer on a normalised row. -/
def ffn (h : Fin 1024 → EReal) (wg wu : Fin 1024 → Fin 2816 → EReal) (wdn : Fin 2816 → Fin 1024 → EReal)
    (n : Fin 1024) : EReal := ∑ f, unit h wg wu wdn n f

/-- The whole step after the first residual row `x1`. -/
def tail (x1 npre : Fin 1024 → EReal) (wg wu : Fin 1024 → Fin 2816 → EReal) (wdn : Fin 2816 → Fin 1024 → EReal)
    (npost : Fin 1024 → EReal) (n : Fin 1024) : EReal :=
  x1 n + rms (ffn (rms x1 npre) wg wu wdn) npost n

/-- The row the step returns. -/
def out (ya yd ga gd x : Fin 1024 → EReal) (wa wd wo : Fin 1024 → Fin 1024 → EReal) (nmix npre : Fin 1024 → EReal)
    (wg wu : Fin 1024 → Fin 2816 → EReal) (wdn : Fin 2816 → Fin 1024 → EReal) (npost : Fin 1024 → EReal) :
    Fin 1024 → EReal :=
  tail (mid x (mixed ya yd ga gd wa wd wo) nmix) npre wg wu wdn npost

/-- The returned row depends on its operands only through their entries. -/
theorem out_congr {ya ya' yd yd' ga ga' gd gd' x x' : Fin 1024 → EReal} {wa wa' wd wd' wo wo' : Fin 1024 → Fin 1024 → EReal}
    {nmix nmix' npre npre' : Fin 1024 → EReal} {wg wg' wu wu' : Fin 1024 → Fin 2816 → EReal}
    {wdn wdn' : Fin 2816 → Fin 1024 → EReal} {npost npost' : Fin 1024 → EReal} {n n' : Fin 1024}
    (h1 : ∀ k, ya k = ya' k) (h2 : ∀ k, yd k = yd' k) (h3 : ∀ k, ga k = ga' k) (h4 : ∀ k, gd k = gd' k)
    (h5 : ∀ k, x k = x' k) (h6 : ∀ k l, wa k l = wa' k l) (h7 : ∀ k l, wd k l = wd' k l)
    (h8 : ∀ k l, wo k l = wo' k l) (h9 : ∀ k, nmix k = nmix' k) (h10 : ∀ k, npre k = npre' k)
    (h11 : ∀ k l, wg k l = wg' k l) (h12 : ∀ k l, wu k l = wu' k l) (h13 : ∀ k l, wdn k l = wdn' k l)
    (h14 : ∀ k, npost k = npost' k) (hn : n = n') :
    out ya yd ga gd x wa wd wo nmix npre wg wu wdn npost n
      = out ya' yd' ga' gd' x' wa' wd' wo' nmix' npre' wg' wu' wdn' npost' n' := by
  cases funext h1; cases funext h2; cases funext h3; cases funext h4; cases funext h5
  cases funext fun k => funext (h6 k); cases funext fun k => funext (h7 k); cases funext fun k => funext (h8 k)
  cases funext h9; cases funext h10
  cases funext fun k => funext (h11 k); cases funext fun k => funext (h12 k); cases funext fun k => funext (h13 k)
  cases funext h14; cases hn; rfl

/-- The step on the whole arrays: row by row, the two gates read from the last two column groups of `p`. -/
def step (ya yd : (⟨2, ![16384, 1024]⟩ : Shape).Idx → EReal) (p : (⟨2, ![16384, 9216]⟩ : Shape).Idx → EReal)
    (x : (⟨2, ![16384, 1024]⟩ : Shape).Idx → EReal) (wa wd wo : (⟨2, ![1024, 1024]⟩ : Shape).Idx → EReal)
    (nmix npre : (⟨2, ![1, 1024]⟩ : Shape).Idx → EReal) (wg wu : (⟨2, ![1024, 2816]⟩ : Shape).Idx → EReal)
    (wdn : (⟨2, ![2816, 1024]⟩ : Shape).Idx → EReal) (npost : (⟨2, ![1, 1024]⟩ : Shape).Idx → EReal) :
    (⟨2, ![16384, 1024]⟩ : Shape).Idx → EReal := fun i =>
  out (row ya (i 0)) (row yd (i 0)) (fun n => p (ix2 (i 0) ⟨7168 + n, by omega⟩))
    (fun n => p (ix2 (i 0) ⟨8192 + n, by omega⟩)) (row x (i 0)) (mat wa) (mat wd) (mat wo) (row nmix 0) (row npre 0)
    (mat wg) (mat wu) (mat wdn) (row npost 0) (i 1)

/-- A sum over `a + b` lanes is the sum over the first `a` and the sum over the last `b`. -/
theorem sum_two (a b : ℕ) (F : Fin (a + b) → EReal) :
    ∑ i, F i = (∑ i : Fin a, F ⟨i, by omega⟩) + ∑ i : Fin b, F ⟨a + i, by omega⟩ := Fin.sum_univ_add F

/-- The hidden units in eleven groups of 256, added from the first group on. -/
theorem sum_groups (F : Fin 2816 → EReal) :
    ∑ i, F i =
      (∑ x : Fin 256, F ⟨x, by omega⟩) + (∑ x : Fin 256, F ⟨256 + x, by omega⟩)
        + (∑ x : Fin 256, F ⟨512 + x, by omega⟩) + (∑ x : Fin 256, F ⟨768 + x, by omega⟩)
        + (∑ x : Fin 256, F ⟨1024 + x, by omega⟩) + (∑ x : Fin 256, F ⟨1280 + x, by omega⟩)
        + (∑ x : Fin 256, F ⟨1536 + x, by omega⟩) + (∑ x : Fin 256, F ⟨1792 + x, by omega⟩)
        + (∑ x : Fin 256, F ⟨2048 + x, by omega⟩) + (∑ x : Fin 256, F ⟨2304 + x, by omega⟩)
        + (∑ x : Fin 256, F ⟨2560 + x, by omega⟩) := by
  refine (sum_two 2560 256 F).trans (congrArg (· + _) ?_)
  refine (sum_two 2304 256 _).trans (congrArg (· + _) ?_)
  refine (sum_two 2048 256 _).trans (congrArg (· + _) ?_)
  refine (sum_two 1792 256 _).trans (congrArg (· + _) ?_)
  refine (sum_two 1536 256 _).trans (congrArg (· + _) ?_)
  refine (sum_two 1280 256 _).trans (congrArg (· + _) ?_)
  refine (sum_two 1024 256 _).trans (congrArg (· + _) ?_)
  refine (sum_two 768 256 _).trans (congrArg (· + _) ?_)
  refine (sum_two 512 256 _).trans (congrArg (· + _) ?_)
  exact sum_two 256 256 _

end Cert.Ffn
-- ==== Proof.FfnKernel.lean ====
module

public import proofs.«01_k».proof.Proof.FfnModel
public import proofs.«01_k».proof.Proof.Gen.KernelIdeal.Value
public import Idealize.ShloMosaic.Lib.Pipeline.ValueKit

/-! # What one grid point of the kernel leaves: `Ffn.out` of the rows of its block -/

@[expose] public section

set_option maxRecDepth 16384

noncomputable section

namespace Cert.KernelIdeal.Ffn

open Cert.KernelIdeal Cert.KernelIdeal.Gen Idealize.ShloMosaic Idealize.SL.Sem
open Idealize.ShloMosaic.TcCoe Cert.Ffn

/-- The output projection of the gated branches. -/
theorem mixed_eq (ya yd ga gd : Vec Ideal S512x1024 .bf16) (wa wd wo : Vec Ideal S1024x1024 .bf16) (r : Fin 512)
    (n : Fin 1024) :
    k0_pay1 (F := Ideal) ya wa yd wd ga gd wo (ix2 r n)
      = mixed (row ya r) (row yd r) (row ga r) (row gd r) (mat wa) (mat wd) (mat wo) n := by
  pointwise [k0_pay1]
  simp only [zero_sub]
  rfl

/-- The first residual. -/
theorem mid_eq (mo x : Vec Ideal S512x1024 .f32) (nmix : Vec Ideal S1x1024 .f32) (r : Fin 512) (n : Fin 1024) :
    k0_pay2 (F := Ideal) mo x nmix (ix2 r n) = mid (row x r) (row mo r) (row nmix 0) n := by
  pointwise [k0_pay2]
  rfl

/-- The normalised row the feed-forward layer reads. -/
theorem norm_eq (mo x : Vec Ideal S512x1024 .f32) (nmix npre : Vec Ideal S1x1024 .f32) (r : Fin 512) (n : Fin 1024) :
    k0_pay3 (F := Ideal) mo x nmix npre (ix2 r n)
      = rms (row (k0_pay2 (F := Ideal) mo x nmix) r) (row npre 0) n := by
  pointwise [k0_pay3]
  rfl

section Groups

variable (h : Vec Ideal S512x1024 .bf16) (A : FVec Ideal S512x1024 .f32) (wg wu : Vec Ideal S1024x2816 .bf16)
  (wdn : Vec Ideal S2816x1024 .bf16) (r : Fin 512) (n : Fin 1024)

/-- Hidden units 0 … 511, in their two groups of 256. -/
theorem acc8_eq (mo x : Vec Ideal S512x1024 .f32) (nmix npre : Vec Ideal S1x1024 .f32)
    (hh : h = k0_pay3 (F := Ideal) mo x nmix npre) :
    k0_pay8 (F := Ideal) h k0_pay4 (k0_pay5 mo x nmix npre (View.ld wg r0_3)) (k0_pay6 mo x nmix npre (View.ld wu r0_3))
        (k0_pay7 mo x nmix npre (View.ld wg r0_3)) (FloatOps.ofBits FTy.f32 1065353216#32) (View.ld wdn r0_4)
        (View.ld wg r0_5) (View.ld wu r0_5) (View.ld wdn r0_6) (ix2 r n)
      = (∑ x : Fin 256, unit (row h r) (mat wg) (mat wu) (mat wdn) n ⟨x, by omega⟩)
        + ∑ x : Fin 256, unit (row h r) (mat wg) (mat wu) (mat wdn) n ⟨256 + x, by omega⟩ := by
  subst hh
  pointwise [k0_pay8, k0_pay4, k0_pay5, k0_pay6, k0_pay7]
  simp only [zero_sub]
  rfl

/-- Hidden units 512 … 1023 added to what stands. -/
theorem acc12_eq :
    k0_pay12 (F := Ideal) h A (k0_pay9 h (View.ld wg r0_7)) (k0_pay10 h (View.ld wu r0_7)) (k0_pay11 h (View.ld wg r0_7))
        (View.ld wdn r0_8) (View.ld wg r0_9) (View.ld wu r0_9) (View.ld wdn r0_10) (ix2 r n)
      = A (ix2 r n) + (∑ x : Fin 256, unit (row h r) (mat wg) (mat wu) (mat wdn) n ⟨512 + x, by omega⟩)
        + ∑ x : Fin 256, unit (row h r) (mat wg) (mat wu) (mat wdn) n ⟨768 + x, by omega⟩ := by
  pointwise [k0_pay12, k0_pay9, k0_pay10, k0_pay11]
  simp only [zero_sub]
  rfl

/-- Hidden units 1024 … 1535 added to what stands. -/
theorem acc15_eq :
    k0_pay15 (F := Ideal) h A (k0_pay13 h (View.ld wg r0_11)) (k0_pay14 h (View.ld wu r0_11))
        (View.ld wdn r0_12) (View.ld wg r0_13) (View.ld wu r0_13) (View.ld wdn r0_14) (ix2 r n)
      = A (ix2 r n) + (∑ x : Fin 256, unit (row h r) (mat wg) (mat wu) (mat wdn) n ⟨1024 + x, by omega⟩)
        + ∑ x : Fin 256, unit (row h r) (mat wg) (mat wu) (mat wdn) n ⟨1280 + x, by omega⟩ := by
  pointwise [k0_pay15, k0_pay13, k0_pay14]
  simp only [zero_sub]
  rfl

/-- Hidden units 1536 … 2047 added to what stands. -/
theorem acc17_eq :
    k0_pay17 (F := Ideal) h A (k0_pay16 h (View.ld wg r0_15)) (View.ld wu r0_15)
        (View.ld wdn r0_16) (View.ld wg r0_17) (View.ld wu r0_17) (View.ld wdn r0_18) (ix2 r n)
      = A (ix2 r n) + (∑ x : Fin 256, unit (row h r) (mat wg) (mat wu) (mat wdn) n ⟨1536 + x, by omega⟩)
        + ∑ x : Fin 256, unit (row h r) (mat wg) (mat wu) (mat wdn) n ⟨1792 + x, by omega⟩ := by
  pointwise [k0_pay17, k0_pay16]
  simp only [zero_sub]
  rfl

/-- Hidden units 2048 … 2559 added to what stands. -/
theorem acc19_eq :
    k0_pay19 (F := Ideal) h A (k0_pay18 (View.ld wg r0_19)) (View.ld wu r0_19)
        (View.ld wdn r0_20) (View.ld wg r0_21) (View.ld wu r0_21) (View.ld wdn r0_22) (ix2 r n)
      = A (ix2 r n) + (∑ x : Fin 256, unit (row h r) (mat wg) (mat wu) (mat wdn) n ⟨2048 + x, by omega⟩)
        + ∑ x : Fin 256, unit (row h r) (mat wg) (mat wu) (mat wdn) n ⟨2304 + x, by omega⟩ := by
  pointwise [k0_pay19, k0_pay18]
  simp only [zero_sub]
  rfl

/-- The last group, the final norm and the second residual, given the other ten groups' sum. -/
theorem last_eq (x1 : FVec Ideal S512x1024 .f32) (npost : Vec Ideal S1x1024 .f32)
    (hA : ∀ n, A (ix2 r n) + (∑ x : Fin 256, unit (row h r) (mat wg) (mat wu) (mat wdn) n ⟨2560 + x, by omega⟩)
      = ffn (row h r) (mat wg) (mat wu) (mat wdn) n) :
    k0_pay20 (F := Ideal) x1 h A (View.ld wg r0_23) (View.ld wu r0_23) (View.ld wdn r0_24) npost (ix2 r n)
      = row x1 r n + rms (ffn (row h r) (mat wg) (mat wu) (mat wdn)) (row npost 0) n := by
  rw [show ffn (row h r) (mat wg) (mat wu) (mat wdn) = _ from (funext hA).symm]
  pointwise [k0_pay20]
  simp only [zero_sub]
  rfl

end Groups

/-- A load of a whole block reads the block. -/
theorem ld_0 {φ : EltTy} (X : S512x1024.Idx → Elt Ideal φ) : View.ld X r0_0 = X :=
  View.ld_unit_zero (by funext a; fin_cases a <;> rfl) _ X
theorem ld_1 {φ : EltTy} (X : S1024x1024.Idx → Elt Ideal φ) : View.ld X r0_1 = X :=
  View.ld_unit_zero (by funext a; fin_cases a <;> rfl) _ X
theorem ld_2 {φ : EltTy} (X : S1x1024.Idx → Elt Ideal φ) : View.ld X r0_2 = X :=
  View.ld_unit_zero (by funext a; fin_cases a <;> rfl) _ X

/-- The payload of the one store, from the fourteen blocks: the model's row. -/
theorem block_eq (ya yd ga gd : Vec Ideal S512x1024 .bf16) (x : Vec Ideal S512x1024 .f32)
    (wa wd wo : Vec Ideal S1024x1024 .bf16) (nmix npre : Vec Ideal S1x1024 .f32)
    (wg wu : Vec Ideal S1024x2816 .bf16) (wdn : Vec Ideal S2816x1024 .bf16) (npost : Vec Ideal S1x1024 .f32)
    (y : S512x1024.Idx) :
    out0_14 (F := Ideal) ya yd ga gd x wa wd wo nmix npre wg wu wdn npost y
      = out (row ya (y 0)) (row yd (y 0)) (row ga (y 0)) (row gd (y 0)) (row x (y 0)) (mat wa) (mat wd) (mat wo)
          (row nmix 0) (row npre 0) (mat wg) (mat wu) (mat wdn) (row npost 0) (y 1) := by
  frame_out
  idx_vars y
  have h21 : row (k0_pay21 (F := Ideal) ya yd ga gd x wa wd wo nmix npre wg wu wdn npost) y0
      = mixed (row ya y0) (row yd y0) (row ga y0) (row gd y0) (mat wa) (mat wd) (mat wo) := by
    funext n
    show k0_pay21 (F := Ideal) ya yd ga gd x wa wd wo nmix npre wg wu wdn npost (ix2 y0 n) = _
    unfold k0_pay21
    simp only [ld_0, ld_1, ld_2]
    exact mixed_eq ya yd ga gd wa wd wo y0 n
  have h2 : row (k0_pay2 (F := Ideal) (k0_pay21 (F := Ideal) ya yd ga gd x wa wd wo nmix npre wg wu wdn npost) x nmix) y0
      = mid (row x y0) (mixed (row ya y0) (row yd y0) (row ga y0) (row gd y0) (mat wa) (mat wd) (mat wo)) (row nmix 0) := by
    funext n
    exact (mid_eq _ x nmix y0 n).trans (by rw [h21])
  have h22 : row (k0_pay22 (F := Ideal) ya yd ga gd x wa wd wo nmix npre wg wu wdn npost) y0
      = rms (mid (row x y0) (mixed (row ya y0) (row yd y0) (row ga y0) (row gd y0) (mat wa) (mat wd) (mat wo)) (row nmix 0))
          (row npre 0) := by
    funext n
    show k0_pay22 (F := Ideal) ya yd ga gd x wa wd wo nmix npre wg wu wdn npost (ix2 y0 n) = _
    unfold k0_pay22
    simp only [ld_0, ld_1, ld_2]
    exact (norm_eq _ x nmix npre y0 n).trans (by rw [h2])
  rw [last_eq]
  · rw [h2, h22]
    rfl
  · intro n
    rw [acc19_eq, acc17_eq, acc15_eq, acc12_eq, acc8_eq]
    · exact (sum_groups _).symm
    · unfold k0_pay22
      simp only [ld_0, ld_1, ld_2]

section Array

variable (m : (ℓ : Loc nD τ sig) → Buf (Elt Ideal) ℓ)

theorem idx : ∀ t : Fin cfg0.N, win0_0.index t = ![t.val, 0] ∧ win0_1.index t = ![t.val, 0]
    ∧ win0_2.index t = ![t.val, 7] ∧ win0_3.index t = ![t.val, 8] ∧ win0_4.index t = ![t.val, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![t.val, 0] := (by decide +kernel : ∀ t : Fin grid0.N, _)

/-- The result array after the run. -/
theorem final (c : Dev nD) : (dats m 0 c).arrAt 14 cfg0.N
    = step (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11))
        (m ((c : Thread nD τ).loc main_arg12)) := by
  refine (dats m 0 c).arrAt_eq_of_covers 14 _ (by decide +kernel) fun t _ y => ?_
  blk_simp
  rw [after0_14]
  refine (block_eq _ _ _ _ _ _ _ _ _ _ _ _ _ _ y).trans ?_
  unfold step
  refine out_congr ?_ ?_ ?_ ?_ ?_ ?_ ?_ ?_ ?_ ?_ ?_ ?_ ?_ ?_ ?_
  · intro k; dsimp only [row]; blk_ext [iblk, V, idx t]
  · intro k; dsimp only [row]; blk_ext [iblk, V, idx t]
  · intro k; dsimp only [row]; blk_ext [iblk, V, idx t]
  · intro k; dsimp only [row]; blk_ext [iblk, V, idx t]
  · intro k; dsimp only [row]; blk_ext [iblk, V, idx t]
  · intro k l; dsimp only [mat]; blk_point [iblk, V, idx t]
  · intro k l; dsimp only [mat]; blk_point [iblk, V, idx t]
  · intro k l; dsimp only [mat]; blk_point [iblk, V, idx t]
  · intro k; dsimp only [row]; blk_ext [iblk, V, idx t]
  · intro k; dsimp only [row]; blk_ext [iblk, V, idx t]
  · intro k l; dsimp only [mat]; blk_point [iblk, V, idx t]
  · intro k l; dsimp only [mat]; blk_point [iblk, V, idx t]
  · intro k l; dsimp only [mat]; blk_point [iblk, V, idx t]
  · intro k; dsimp only [row]; blk_ext [iblk, V, idx t]
  · refine Fin.ext ?_
    blk_simp [idx t]
    try omega

end Array

end Cert.KernelIdeal.Ffn
-- ==== Proof.FfnReference.lean ====
module

public import proofs.«01_k».proof.Proof.FfnModel
public import proofs.«01_k».proof.Proof.Gen.ReferenceIdeal.Run
public import Idealize.ShloMosaic.Lib.Pipeline.ValueKit

/-! # What the reference computes: the model's step, row by row -/

@[expose] public section

set_option maxRecDepth 16384

noncomputable section

namespace Cert.ReferenceIdeal.Ffn

open Cert.ReferenceIdeal Cert.ReferenceIdeal.Gen Cert.ReferenceIdeal.Value Idealize.ShloMosaic Idealize.SL.Sem
open Idealize.ShloMosaic.TcCoe Cert.Ffn

variable (V : Valuation τ sig (Elt Ideal))

/-- An argument array of the reference, as a function of its index. -/
abbrev a0 : S16384x1024.Idx → EReal := V (Proc.devRef .tc main_arg0)
abbrev a1 : S16384x1024.Idx → EReal := V (Proc.devRef .tc main_arg1)
abbrev a2 : S16384x9216.Idx → EReal := V (Proc.devRef .tc main_arg2)
abbrev a3 : S16384x1024.Idx → EReal := V (Proc.devRef .tc main_arg3)
abbrev a4 : S1024x1024.Idx → EReal := V (Proc.devRef .tc main_arg4)
abbrev a5 : S1024x1024.Idx → EReal := V (Proc.devRef .tc main_arg5)
abbrev a6 : S1024x1024.Idx → EReal := V (Proc.devRef .tc main_arg6)
abbrev a7 : S1x1024.Idx → EReal := V (Proc.devRef .tc main_arg7)
abbrev a8 : S1x1024.Idx → EReal := V (Proc.devRef .tc main_arg8)
abbrev a9 : S1024x2816.Idx → EReal := V (Proc.devRef .tc main_arg9)
abbrev a10 : S1024x2816.Idx → EReal := V (Proc.devRef .tc main_arg10)
abbrev a11 : S2816x1024.Idx → EReal := V (Proc.devRef .tc main_arg11)
abbrev a12 : S1x1024.Idx → EReal := V (Proc.devRef .tc main_arg12)

/-- The reference's first row values: the output projection, the first residual, its norm, the feed-forward layer. -/
abbrev w23 : S16384x1024.Idx → EReal := res_main_v23 (F := Ideal) V
abbrev w36 : S16384x1024.Idx → EReal := res_main_v36 (F := Ideal) V
abbrev w48 : S16384x1024.Idx → EReal := res_main_v48 (F := Ideal) V
abbrev w53 : S16384x1024.Idx → EReal := res_main_v53 (F := Ideal) V

variable (r : Fin 16384)

theorem row23 : row (w23 V) r = mixed (row (a0 V) r) (row (a1 V) r) (fun n => a2 V (ix2 r ⟨7168 + n, by omega⟩))
    (fun n => a2 V (ix2 r ⟨8192 + n, by omega⟩)) (mat (a4 V)) (mat (a5 V)) (mat (a6 V)) := by
  funext n
  show (show FVec Ideal S16384x1024 .f32 from res_main_v23 (F := Ideal) V) (ix2 r n) = _
  pointwise [res_main_v23]
  rfl

theorem row36 : row (w36 V) r = mid (row (a3 V) r) (row (w23 V) r) (row (a7 V) 0) := by
  funext n
  show (show FVec Ideal S16384x1024 .f32 from res_main_v36 (F := Ideal) V) (ix2 r n) = _
  pointwise [res_main_v36]
  rfl

theorem row48 : row (w48 V) r = rms (row (w36 V) r) (row (a8 V) 0) := by
  funext n
  show (show FVec Ideal S16384x1024 .f32 from res_main_v48 (F := Ideal) V) (ix2 r n) = _
  pointwise [res_main_v48]
  rfl

theorem row53 : row (w53 V) r = ffn (row (w48 V) r) (mat (a9 V)) (mat (a10 V)) (mat (a11 V)) := by
  funext n
  show (show FVec Ideal S16384x1024 .f32 from res_main_v53 (F := Ideal) V) (ix2 r n) = _
  pointwise [res_main_v53, res_main_v49]
  rfl

/-- The reference's result array. -/
theorem result_eq :
    addf (res_main_v36 V) (mulf (mulf (res_main_v53 V) (broadcastInDim S16384x1024 ![0, 1] bcast_S16384x1_S16384x1024_0_1 (Host.rsqrt (addf (Host.divf (broadcastInDim S16384x1 ![0] bcast_S16384_S16384x1_0 (Host.reduceAdd (mulf (res_main_v53 V) (res_main_v53 V)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (V (Proc.devRef .tc main_arg12))))
      = step (a0 V) (a1 V) (a2 V) (a3 V) (a4 V) (a5 V) (a6 V) (a7 V) (a8 V) (a9 V) (a10 V) (a11 V) (a12 V) := by
  funext i
  idx_vars i
  refine Eq.trans (b := row (w36 V) i0 i1 + rms (row (w53 V) i0) (row (a12 V) 0) i1) ?_ ?_
  · pointwise []
    rfl
  · rw [row53, row48, row36, row23]
    rfl

/-- The reference's run: its result array is the step on the arguments, which it leaves alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
        = step (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run _ _ _).mono (fun _ h c => ⟨(h c).1.trans (result_eq (StableHlo.launchContents m c)), (h c).2⟩) (Cert.ReferenceIdeal.Value.run m ρ)

end Cert.ReferenceIdeal.Ffn
-- ==== Proof.ProjModel.lean ====
module

public import proofs.«01_k».proof.Proof.FfnModel

/-! # One row of the input projection, over the extended reals

The projection norms a row, multiplies it by the input weights and hands the lanes on: query and key heads turned by
the position's angles (the query scaled as well), the values, the recurrent branch's lanes, the gates and the small
lanes.  This file says what each lane is; both programs are shown to compute these. -/

@[expose] public section

noncomputable section

namespace Cert.Proj

open Idealize.ShloMosaic Idealize.SL.Sem Cert.Ffn

/-- The query scale as an f32 constant: the softmax scale times the logarithm of e to base two. -/
def scale : EReal := Ideal.ofBits FTy.f32 1040356334#32

/-- The block length as an f32 constant. -/
def block : EReal := Ideal.ofBits FTy.f32 1132462080#32

/-- Lane `n` of the projected row: the normed row against column `n` of the weights. -/
def lane (x nw : Fin 1024 → EReal) (w : Fin 1024 → Fin 9232 → EReal) (n : Fin 9232) : EReal := lin (rms x nw) w n

/-- A head's first 32 lanes turned in pairs `(l, l + 16)` by the angles whose cosines and sines the table row holds
in its first and second sixteen lanes; the other lanes stay. -/
def turn (a t : Fin 128 → EReal) (l : Fin 128) : EReal :=
  if h : (l : ℕ) < 16 then a l * t l - a ⟨l + 16, by omega⟩ * t ⟨l + 16, by omega⟩
  else if h : (l : ℕ) < 32 then a l * t ⟨l - 16, by omega⟩ + a ⟨l - 16, by omega⟩ * t l
  else a l

variable (x nw : Fin 1024 → EReal) (w : Fin 1024 → Fin 9232 → EReal) (t : Fin 128 → EReal)

/-- Query head `h`: turned and scaled. -/
def query (h : Fin 8) (l : Fin 128) : EReal :=
  turn (fun l => lane x nw w ⟨128 * h + l, by omega⟩) t l * scale

/-- Key head `h`: turned. -/
def key (h : Fin 8) (l : Fin 128) : EReal :=
  turn (fun l => lane x nw w ⟨1024 + 128 * h + l, by omega⟩) t l

/-- Value head `h`. -/
def val (h : Fin 8) (l : Fin 128) : EReal := lane x nw w ⟨2048 + 128 * h + l, by omega⟩

/-- The wide result's lane `n`: queries, keys, and the other lanes without the sixteen small ones. -/
def wide (n : Fin 9216) : EReal :=
  if h : (n : ℕ) < 1024 then query x nw w t ⟨n / 128, by omega⟩ ⟨n % 128, by omega⟩
  else if h : (n : ℕ) < 2048 then key x nw w t ⟨(n - 1024) / 128, by omega⟩ ⟨(n - 1024) % 128, by omega⟩
  else if h : (n : ℕ) < 7168 then lane x nw w ⟨n, by omega⟩
  else lane x nw w ⟨16 + n, by omega⟩

/-- The narrow result's lane `n`: the sixteen small lanes, then zeros. -/
def narrow (n : Fin 128) : EReal :=
  if h : (n : ℕ) < 16 then lane x nw w ⟨7168 + n, by omega⟩ else 0

/-- The mean of key head `h` over the rows of a block, of which `x` and `t` give one by one the row and its angles. -/
def mean (x : Fin 256 → Fin 1024 → EReal) (t : Fin 256 → Fin 128 → EReal) (h : Fin 8) (l : Fin 128) : EReal :=
  Ideal.div (∑ r : Fin 256, key (x r) nw w (t r) h l) block

/-- Row `d` of the values turned over: a value head's lane, then rows of ones. -/
def turned (h : Fin 8) (d : Fin 144) : EReal :=
  if g : (d : ℕ) < 128 then val x nw w h ⟨d, g⟩ else 1

/-- The block length's reciprocal times a number is that number over the block length. -/
theorem mul_inv_block (a : EReal) : a * Ideal.ofBits FTy.f32 998244352#32 = Ideal.div a block := by
  have e : block = ((256 : ℝ) : EReal) := by
    unfold block; simp [Ideal.ofBits, Ideal.ieee, -EReal.coe_mul]; norm_num
  have f : Ideal.ofBits FTy.f32 998244352#32 = ((1 / 256 : ℝ) : EReal) := by
    simp [Ideal.ofBits, Ideal.ieee, -EReal.coe_mul]; norm_num
  rw [e, f, Ideal.div_coe (by norm_num : (256 : ℝ) ≠ 0)]

theorem wide_query (n : Fin 9216) (h : Fin 8) (l : Fin 128) (e : (n : ℕ) = 128 * h + l) :
    wide x nw w t n = query x nw w t h l := by
  unfold wide
  rw [dif_pos (by omega)]
  congr 1 <;> exact Fin.ext (by dsimp only; omega)

theorem wide_key (n : Fin 9216) (h : Fin 8) (l : Fin 128) (e : (n : ℕ) = 1024 + 128 * h + l) :
    wide x nw w t n = key x nw w t h l := by
  unfold wide
  rw [dif_neg (by omega), dif_pos (by omega)]
  congr 1 <;> exact Fin.ext (by dsimp only; omega)

theorem wide_mid (n : Fin 9216) (g : 2048 ≤ (n : ℕ)) (u : (n : ℕ) < 7168) :
    wide x nw w t n = lane x nw w ⟨n, by omega⟩ := by
  unfold wide
  rw [dif_neg (by omega), dif_neg (by omega), dif_pos u]

theorem wide_late (n : Fin 9216) (g : 7168 ≤ (n : ℕ)) : wide x nw w t n = lane x nw w ⟨16 + n, by omega⟩ := by
  unfold wide
  rw [dif_neg (by omega), dif_neg (by omega), dif_neg (by omega)]

section Arrays

variable (x : (⟨2, ![16384, 1024]⟩ : Shape).Idx → EReal) (nw : (⟨2, ![1, 1024]⟩ : Shape).Idx → EReal)
    (w : (⟨2, ![1024, 9232]⟩ : Shape).Idx → EReal) (t : (⟨2, ![16384, 128]⟩ : Shape).Idx → EReal)

/-- The wide result on the whole arrays. -/
def wideOf : (⟨2, ![16384, 9216]⟩ : Shape).Idx → EReal := fun i =>
  wide (row x (i 0)) (row nw 0) (mat w) (row t (i 0)) (i 1)

/-- The narrow result on the whole arrays. -/
def narrowOf : (⟨2, ![16384, 128]⟩ : Shape).Idx → EReal := fun i =>
  narrow (row x (i 0)) (row nw 0) (mat w) (i 1)

/-- The key means on the whole arrays: one row of heads for every block of 256 positions, two blocks to a step. -/
def meanOf : (⟨3, ![32, 2, 1024]⟩ : Shape).Idx → EReal := fun i =>
  let a : Fin 32 := i 0
  let b : Fin 2 := i 1
  let n : Fin 1024 := i 2
  mean (row nw 0) (mat w) (fun r => row x ⟨512 * a + 256 * b + r, by omega⟩)
    (fun r => row t ⟨512 * a + 256 * b + r, by omega⟩) ⟨n / 128, by omega⟩ ⟨n % 128, by omega⟩

/-- The values on the whole arrays: by head and block, lanes down and positions across, rows of ones below. -/
def turnedOf : (⟨4, ![8, 64, 144, 256]⟩ : Shape).Idx → EReal := fun i =>
  let b : Fin 64 := i 1
  let k : Fin 256 := i 3
  turned (row x ⟨256 * b + k, by omega⟩) (row nw 0) (mat w) (i 0) (i 2)

/-- The queries on the whole arrays, head by head. -/
def queryOf : (⟨3, ![8, 16384, 128]⟩ : Shape).Idx → EReal := fun i =>
  query (row x (i 1)) (row nw 0) (mat w) (row t (i 1)) (i 0) (i 2)

end Arrays

section Congr

variable {x x' nw nw' : Fin 1024 → EReal} {w w' : Fin 1024 → Fin 9232 → EReal} {t t' : Fin 128 → EReal}

theorem wide_congr {n n' : Fin 9216} (h1 : ∀ k, x k = x' k) (h2 : ∀ k, nw k = nw' k) (h3 : ∀ k l, w k l = w' k l)
    (h4 : ∀ k, t k = t' k) (h5 : n = n') : wide x nw w t n = wide x' nw' w' t' n' := by
  cases funext h1; cases funext h2; cases funext fun k => funext (h3 k); cases funext h4; cases h5; rfl

theorem narrow_congr {n n' : Fin 128} (h1 : ∀ k, x k = x' k) (h2 : ∀ k, nw k = nw' k) (h3 : ∀ k l, w k l = w' k l)
    (h5 : n = n') : narrow x nw w n = narrow x' nw' w' n' := by
  cases funext h1; cases funext h2; cases funext fun k => funext (h3 k); cases h5; rfl

theorem query_congr {h h' : Fin 8} {l l' : Fin 128} (h1 : ∀ k, x k = x' k) (h2 : ∀ k, nw k = nw' k)
    (h3 : ∀ k l, w k l = w' k l) (h4 : ∀ k, t k = t' k) (h5 : h = h') (h6 : l = l') :
    query x nw w t h l = query x' nw' w' t' h' l' := by
  cases funext h1; cases funext h2; cases funext fun k => funext (h3 k); cases funext h4; cases h5; cases h6; rfl

theorem turned_congr {h h' : Fin 8} {d d' : Fin 144} (h1 : ∀ k, x k = x' k) (h2 : ∀ k, nw k = nw' k)
    (h3 : ∀ k l, w k l = w' k l) (h5 : h = h') (h6 : d = d') : turned x nw w h d = turned x' nw' w' h' d' := by
  cases funext h1; cases funext h2; cases funext fun k => funext (h3 k); cases h5; cases h6; rfl

theorem mean_congr {X X' : Fin 256 → Fin 1024 → EReal} {T T' : Fin 256 → Fin 128 → EReal} {h h' : Fin 8}
    {l l' : Fin 128} (h1 : ∀ r k, X r k = X' r k) (h2 : ∀ k, nw k = nw' k) (h3 : ∀ k l, w k l = w' k l)
    (h4 : ∀ r k, T r k = T' r k) (h5 : h = h') (h6 : l = l') : mean nw w X T h l = mean nw' w' X' T' h' l' := by
  cases funext fun r => funext (h1 r); cases funext h2; cases funext fun k => funext (h3 k)
  cases funext fun r => funext (h4 r); cases h5; cases h6; rfl

end Congr

end Cert.Proj
-- ==== Proof.ProjLanes.lean ====
module

public import proofs.«01_k».proof.Proof.ProjModel
public import proofs.«01_k».proof.Proof.Gen.Kernel2Ideal.Value
public import Idealize.ShloMosaic.Lib.Pipeline.ValueKit

/-! # The projection kernel's lanes at one row of a block: the model's -/

@[expose] public section

set_option maxRecDepth 16384

noncomputable section

namespace Cert.Kernel2Ideal.Proj

open Cert.Kernel2Ideal Cert.Kernel2Ideal.Gen Idealize.ShloMosaic Idealize.SL.Sem
open Idealize.ShloMosaic.TcCoe Cert.Ffn Cert.Proj

variable (tab : FVec Ideal S512x128 .f32) (r : Fin 512) (l : Fin 128)

/-- The cosine lanes. -/
theorem cos_eq : k0_pay5 (F := Ideal) tab (ix2 r l)
    = if (l : ℕ) < 16 then tab (ix2 r l) else if (l : ℕ) < 32 then tab (ix2 r ⟨(↑l + 128 - 16) % 128, by omega⟩) else 1 := by
  pointwise [k0_pay5]
  fin_cases l <;> rfl

/-- The sine lanes met by the lane sixteen further on. -/
theorem sin1_eq : k0_pay7 (F := Ideal) tab k0_pay6 112#32 (ix2 r l)
    = if (l : ℕ) < 16 then -tab (ix2 r ⟨(↑l + 128 - 112) % 128, by omega⟩) else 0 := by
  pointwise [k0_pay7, k0_pay6]
  rw [zero_sub]
  fin_cases l <;> rfl

/-- The sine lanes met by the lane sixteen before. -/
theorem sin2_eq : k0_pay8 (F := Ideal) tab (iota Kind.tc S512x128 32 [1] iota_S512x128_d1_w32) (ix2 r l)
    = if ¬ (l : ℕ) < 16 ∧ (l : ℕ) < 32 then tab (ix2 r l) else 0 := by
  pointwise [k0_pay8]
  fin_cases l <;> rfl

/-- A head's lanes against the three tables: the model's turn. -/
theorem turn_eq (a : Fin 128 → EReal) :
    a l * k0_pay5 (F := Ideal) tab (ix2 r l)
        + a ⟨(↑l + 128 - 112) % 128, by omega⟩ * k0_pay7 (F := Ideal) tab k0_pay6 112#32 (ix2 r l)
        + a ⟨(↑l + 128 - 16) % 128, by omega⟩
          * k0_pay8 (F := Ideal) tab (iota Kind.tc S512x128 32 [1] iota_S512x128_d1_w32) (ix2 r l)
      = turn a (row tab r) l := by
  rw [cos_eq, sin1_eq, sin2_eq]
  unfold turn
  have hl := l.isLt
  by_cases h1 : (l : ℕ) < 16
  · have e : (⟨(↑l + 128 - 112) % 128, by omega⟩ : Fin 128) = ⟨l + 16, by omega⟩ := Fin.ext (by dsimp only; omega)
    rw [if_pos h1, if_pos h1, if_neg (fun h => h.1 h1), dif_pos h1, mul_zero, add_zero, mul_neg, ← sub_eq_add_neg]
    rw [e]
  · by_cases h2 : (l : ℕ) < 32
    · have e : (⟨(↑l + 128 - 16) % 128, by omega⟩ : Fin 128) = ⟨l - 16, by omega⟩ := Fin.ext (by dsimp only; omega)
      rw [if_neg h1, if_pos h2, if_neg h1, if_pos ⟨h1, h2⟩, dif_neg h1, dif_pos h2, mul_zero, add_zero, e]
    · rw [if_neg h1, if_neg h2, if_neg h1, if_neg (fun h => h2 h.2), dif_neg h1, dif_neg h2, mul_zero, add_zero,
        mul_zero, add_zero, mul_one]

/-- The weights by input lane and output lane. -/
abbrev wt (w : Vec Ideal S9232x1024 .bf16) : Fin 1024 → Fin 9232 → EReal := fun k n => w (ix2 n k)

variable (x : Vec Ideal S512x1024 .f32) (nw : Vec Ideal S1x1024 .f32) (w : Vec Ideal S9232x1024 .bf16)

/-- The normed row. -/
theorem norm_eq (n : Fin 1024) : k0_pay3 (F := Ideal) x nw (ix2 r n) = rms (row x r) (row nw 0) n := by
  pointwise [k0_pay3]
  rfl

variable (n : Fin 1024)

theorem q_lane : k0_pay9 (F := Ideal) (k0_pay3 x nw) (View.ld w (Rect.unit ![0, 0] ![1024, 1024] inb_S9232x1024_S1024x1024_0_0)) (ix2 r n)
    = lane (row x r) (row nw 0) (wt w) ⟨0 + n, by omega⟩ := by
  pointwise [k0_pay9]
  simp only [norm_eq]
  first
    | rfl
    | (unfold lane lin wt; simp only [Nat.zero_add])

theorem k_lane : k0_pay38 (F := Ideal) (k0_pay3 x nw) (View.ld w (Rect.unit ![1024, 0] ![1024, 1024] inb_S9232x1024_S1024x1024_1024_0)) (ix2 r n)
    = lane (row x r) (row nw 0) (wt w) ⟨1024 + n, by omega⟩ := by
  pointwise [k0_pay38]
  simp only [norm_eq]
  first
    | rfl
    | (unfold lane lin wt; simp only [Nat.zero_add])

theorem v_lane : k0_pay75 (F := Ideal) (k0_pay3 x nw) (View.ld w (Rect.unit ![2048, 0] ![1024, 1024] inb_S9232x1024_S1024x1024_2048_0)) (ix2 r n)
    = lane (row x r) (row nw 0) (wt w) ⟨2048 + n, by omega⟩ := by
  pointwise [k0_pay75]
  simp only [norm_eq]
  first
    | rfl
    | (unfold lane lin wt; simp only [Nat.zero_add])

theorem lane_2048 : k0_pay76 (F := Ideal) (k0_pay3 x nw) (View.ld w (Rect.unit ![2048, 0] ![1024, 1024] inb_S9232x1024_S1024x1024_2048_0)) (ix2 r n)
    = lane (row x r) (row nw 0) (wt w) ⟨2048 + n, by omega⟩ := by
  pointwise [k0_pay76, k0_pay75]
  simp only [norm_eq]
  rfl

theorem lane_3072 : k0_pay114 (F := Ideal) (k0_pay3 x nw) (View.ld w (Rect.unit ![3072, 0] ![1024, 1024] inb_S9232x1024_S1024x1024_3072_0)) (ix2 r n)
    = lane (row x r) (row nw 0) (wt w) ⟨3072 + n, by omega⟩ := by
  pointwise [k0_pay114, k0_pay75]
  simp only [norm_eq]
  rfl

theorem lane_4096 : k0_pay115 (F := Ideal) (k0_pay3 x nw) (View.ld w (Rect.unit ![4096, 0] ![1024, 1024] inb_S9232x1024_S1024x1024_4096_0)) (ix2 r n)
    = lane (row x r) (row nw 0) (wt w) ⟨4096 + n, by omega⟩ := by
  pointwise [k0_pay115, k0_pay75]
  simp only [norm_eq]
  rfl

theorem lane_5120 : k0_pay116 (F := Ideal) (k0_pay3 x nw) (View.ld w (Rect.unit ![5120, 0] ![1024, 1024] inb_S9232x1024_S1024x1024_5120_0)) (ix2 r n)
    = lane (row x r) (row nw 0) (wt w) ⟨5120 + n, by omega⟩ := by
  pointwise [k0_pay116, k0_pay75]
  simp only [norm_eq]
  rfl

theorem lane_6144 : k0_pay117 (F := Ideal) (k0_pay3 x nw) (View.ld w (Rect.unit ![6144, 0] ![1024, 1024] inb_S9232x1024_S1024x1024_6144_0)) (ix2 r n)
    = lane (row x r) (row nw 0) (wt w) ⟨6144 + n, by omega⟩ := by
  pointwise [k0_pay117, k0_pay75]
  simp only [norm_eq]
  rfl

theorem lane_7184 : k0_pay1 (F := Ideal) (k0_pay3 x nw) (View.ld w (Rect.unit ![7184, 0] ![1024, 1024] inb_S9232x1024_S1024x1024_7184_0)) (ix2 r n)
    = lane (row x r) (row nw 0) (wt w) ⟨7184 + n, by omega⟩ := by
  pointwise [k0_pay1, k0_pay75]
  simp only [norm_eq]
  rfl

theorem lane_8208 : k0_pay2 (F := Ideal) (k0_pay3 x nw) (View.ld w (Rect.unit ![8208, 0] ![1024, 1024] inb_S9232x1024_S1024x1024_8208_0)) (ix2 r n)
    = lane (row x r) (row nw 0) (wt w) ⟨8208 + n, by omega⟩ := by
  pointwise [k0_pay2, k0_pay75]
  simp only [norm_eq]
  rfl

theorem small_eq : k0_pay4 (F := Ideal) x nw (View.ld w (Rect.unit ![7168, 0] ![128, 1024] inb_S9232x1024_S128x1024_7168_0)) (ix2 r l)
    = narrow (row x r) (row nw 0) (wt w) l := by
  pointwise [k0_pay4]
  simp only [norm_eq]
  unfold narrow
  have e : IntOp.cmpi CmpIPredicate.slt (BitVec.ofNat 32 (l : ℕ)) 16#32 = if (l : ℕ) < 16 then 1#1 else 0#1 := by
    fin_cases l <;> rfl
  rw [e]
  by_cases h : (l : ℕ) < 16
  · rw [if_pos h, dif_pos h]; rfl
  · rw [if_neg h, dif_neg h]; rfl

/-- Query head `h`, whose lanes begin at `o` in the product `A` of the normed rows. -/
theorem q_fin (A : FVec Ideal S512x1024 .f32)
    (hA : ∀ n : Fin 1024, A (ix2 r n) = lane (row x r) (row nw 0) (wt w) ⟨0 + n, by omega⟩)
    (h : Fin 8) (o : ℕ) (ho : o = 128 * h) :
    (A (ix2 r ⟨o + l, by omega⟩) * k0_pay5 (F := Ideal) tab (ix2 r l)
        + A (ix2 r ⟨o + (↑l + 128 - 112) % 128, by omega⟩) * k0_pay7 (F := Ideal) tab k0_pay6 112#32 (ix2 r l)
        + A (ix2 r ⟨o + (↑l + 128 - 16) % 128, by omega⟩)
          * k0_pay8 (F := Ideal) tab (iota Kind.tc S512x128 32 [1] iota_S512x128_d1_w32) (ix2 r l)) * Ideal.ofBits FTy.f32 1040356334#32
      = query (row x r) (row nw 0) (wt w) (row tab r) h l := by
  subst ho
  rw [hA, hA, hA]
  refine Eq.trans ?_ (congrArg (· * scale) (turn_eq tab r l (fun l => lane (row x r) (row nw 0) (wt w) ⟨128 * h + l, by omega⟩)))
  simp only [Nat.zero_add, Nat.add_assoc]
  rfl

/-- Key head `h`, whose lanes begin at `o` in the product `A` of the normed rows. -/
theorem k_fin (A : FVec Ideal S512x1024 .f32)
    (hA : ∀ n : Fin 1024, A (ix2 r n) = lane (row x r) (row nw 0) (wt w) ⟨1024 + n, by omega⟩)
    (h : Fin 8) (o : ℕ) (ho : o = 128 * h) :
    (A (ix2 r ⟨o + l, by omega⟩) * k0_pay5 (F := Ideal) tab (ix2 r l)
        + A (ix2 r ⟨o + (↑l + 128 - 112) % 128, by omega⟩) * k0_pay7 (F := Ideal) tab k0_pay6 112#32 (ix2 r l)
        + A (ix2 r ⟨o + (↑l + 128 - 16) % 128, by omega⟩)
          * k0_pay8 (F := Ideal) tab (iota Kind.tc S512x128 32 [1] iota_S512x128_d1_w32) (ix2 r l))
      = key (row x r) (row nw 0) (wt w) (row tab r) h l := by
  subst ho
  rw [hA, hA, hA]
  refine Eq.trans ?_ (turn_eq tab r l (fun l => lane (row x r) (row nw 0) (wt w) ⟨1024 + 128 * h + l, by omega⟩))
  simp only [Nat.zero_add, Nat.add_assoc]

end Cert.Kernel2Ideal.Proj
-- ==== Proof.ProjBlocks.lean ====
module

public import proofs.«01_k».proof.Proof.ProjLanes
public import Idealize.ShloMosaic.Lib.Pipeline.ValueKit

/-! # What one grid point leaves in each result, lane by lane: the model -/

@[expose] public section

set_option maxRecDepth 16384

noncomputable section

namespace Cert.Kernel2Ideal.Proj

open Cert.Kernel2Ideal Cert.Kernel2Ideal.Gen Idealize.ShloMosaic Idealize.SL.Sem
open Idealize.ShloMosaic.TcCoe Cert.Ffn Cert.Proj

variable (xb : Vec Ideal S512x1024 .f32) (nw : Vec Ideal S1x1024 .f32) (w : Vec Ideal S9232x1024 .bf16)
  (tab : Vec Ideal S512x128 .f32)

/-- A query head's piece of the wide result. -/
theorem at_query (P : FVec Ideal S512x128 .bf16) (h : Fin 8)
    (hP : ∀ (r : Fin 512) (l : Fin 128), P (ix2 r l) = query (row xb r) (row nw 0) (wt w) (row tab r) h l)
    (x : S512x128.Idx) (y : S512x9216.Idx) (h0 : (y 0 : ℕ) = x 0) (h1 : (y 1 : ℕ) = 128 * h + x 1) :
    P x = wide (row xb (y 0)) (row nw 0) (wt w) (row tab (y 0)) (y 1) := by
  idx_vars x
  rw [hP, wide_query _ _ _ _ _ h x1 h1, show y 0 = x0 from Fin.ext h0]

/-- A key head's piece of the wide result. -/
theorem at_key (P : FVec Ideal S512x128 .bf16) (h : Fin 8)
    (hP : ∀ (r : Fin 512) (l : Fin 128), P (ix2 r l) = key (row xb r) (row nw 0) (wt w) (row tab r) h l)
    (x : S512x128.Idx) (y : S512x9216.Idx) (h0 : (y 0 : ℕ) = x 0) (h1 : (y 1 : ℕ) = 1024 + 128 * h + x 1) :
    P x = wide (row xb (y 0)) (row nw 0) (wt w) (row tab (y 0)) (y 1) := by
  idx_vars x
  rw [hP, wide_key _ _ _ _ _ h x1 h1, show y 0 = x0 from Fin.ext h0]

/-- A piece of the lanes before the small ones. -/
theorem at_mid (P : FVec Ideal S512x1024 .bf16) (o : ℕ) (g : 2048 ≤ o) (u : o + 1024 ≤ 7168)
    (hP : ∀ (r : Fin 512) (n : Fin 1024), P (ix2 r n) = lane (row xb r) (row nw 0) (wt w) ⟨o + n, by omega⟩)
    (x : S512x1024.Idx) (y : S512x9216.Idx) (h0 : (y 0 : ℕ) = x 0) (h1 : (y 1 : ℕ) = o + x 1) :
    P x = wide (row xb (y 0)) (row nw 0) (wt w) (row tab (y 0)) (y 1) := by
  idx_vars x
  have h1 : (y 1 : ℕ) = o + x1 := h1
  have b := x1.isLt
  refine (hP x0 x1).trans (Eq.trans ?_ (wide_mid (row xb (y 0)) (row nw 0) (wt w) (row tab (y 0)) (y 1) (by omega) (by omega)).symm)
  rw [show y 0 = x0 from Fin.ext h0]
  exact congrArg _ (Fin.ext h1.symm)

/-- A piece of the lanes after the small ones. -/
theorem at_late (P : FVec Ideal S512x1024 .bf16) (o : ℕ) (g : 7184 ≤ o) (u : o + 1024 ≤ 9232)
    (hP : ∀ (r : Fin 512) (n : Fin 1024), P (ix2 r n) = lane (row xb r) (row nw 0) (wt w) ⟨o + n, by omega⟩)
    (x : S512x1024.Idx) (y : S512x9216.Idx) (h0 : (y 0 : ℕ) = x 0) (h1 : 16 + (y 1 : ℕ) = o + x 1) :
    P x = wide (row xb (y 0)) (row nw 0) (wt w) (row tab (y 0)) (y 1) := by
  idx_vars x
  have h1 : 16 + (y 1 : ℕ) = o + x1 := h1
  have b := x1.isLt
  refine (hP x0 x1).trans (Eq.trans ?_ (wide_late (row xb (y 0)) (row nw 0) (wt w) (row tab (y 0)) (y 1) (by omega)).symm)
  rw [show y 0 = x0 from Fin.ext h0]
  exact congrArg _ (Fin.ext h1.symm)

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S9232x1024 .bf16) (harg3 : arg3.IsWhole) (arg4 : Memref sig .tc .vmem S512x128 .f32) (harg4 : arg4.IsWhole) (arg5 : Memref sig .tc .vmem S512x9216 .bf16) (harg5 : arg5.IsWhole) (arg6 : Memref sig .tc .vmem S512x128 .f32) (harg6 : arg6.IsWhole) (arg7 : Memref sig .tc .vmem S1x2x1024 .f32) (harg7 : arg7.IsWhole) (arg8 : Memref sig .tc .vmem S8x2x144x256 .bf16) (harg8 : arg8.IsWhole) (arg9 : Memref sig .tc .vmem S8x512x128 .f32) (harg9 : arg9.IsWhole)

/-- The wide result's block. -/
theorem block4 (y : S512x9216.Idx) : out0_A_4 (F := Ideal) c i arg1 harg1 arg2 harg2 arg3 harg3 arg4 harg4 arg5 harg5 arg6 harg6 arg7 harg7 arg8 harg8 arg9 harg9 xb nw w tab y
    = wide (row xb (y 0)) (row nw 0) (wt w) (row tab (y 0)) (y 1) := by
  frame_out
  canon_tiles x h using View.cover_of_tiledBy _ ![512, 128] (by sl_kernel_rfl) y
  case piece0 =>
    exact at_late xb nw w tab _ 8208 (by omega) (by omega) (fun r n => lane_8208 r xb nw w n) x y (by omega) (by omega)
  case piece1 =>
    exact at_late xb nw w tab _ 7184 (by omega) (by omega) (fun r n => lane_7184 r xb nw w n) x y (by omega) (by omega)
  case piece2 =>
    exact at_mid xb nw w tab _ 6144 (by omega) (by omega) (fun r n => lane_6144 r xb nw w n) x y (by omega) (by omega)
  case piece3 =>
    exact at_mid xb nw w tab _ 5120 (by omega) (by omega) (fun r n => lane_5120 r xb nw w n) x y (by omega) (by omega)
  case piece4 =>
    exact at_mid xb nw w tab _ 4096 (by omega) (by omega) (fun r n => lane_4096 r xb nw w n) x y (by omega) (by omega)
  case piece5 =>
    exact at_mid xb nw w tab _ 3072 (by omega) (by omega) (fun r n => lane_3072 r xb nw w n) x y (by omega) (by omega)
  case piece6 =>
    exact at_mid xb nw w tab _ 2048 (by omega) (by omega) (fun r n => lane_2048 r xb nw w n) x y (by omega) (by omega)
  case piece7 =>
    refine at_key xb nw w tab _ 7 (fun r l => ?_) x y (by omega) (by omega)
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    exact k_fin tab r l xb nw w _ (k_lane r xb nw w) 7 896 rfl
  case piece8 =>
    refine at_key xb nw w tab _ 6 (fun r l => ?_) x y (by omega) (by omega)
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    exact k_fin tab r l xb nw w _ (k_lane r xb nw w) 6 768 rfl
  case piece9 =>
    refine at_key xb nw w tab _ 5 (fun r l => ?_) x y (by omega) (by omega)
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    exact k_fin tab r l xb nw w _ (k_lane r xb nw w) 5 640 rfl
  case piece10 =>
    refine at_key xb nw w tab _ 4 (fun r l => ?_) x y (by omega) (by omega)
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    exact k_fin tab r l xb nw w _ (k_lane r xb nw w) 4 512 rfl
  case piece11 =>
    refine at_key xb nw w tab _ 3 (fun r l => ?_) x y (by omega) (by omega)
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    exact k_fin tab r l xb nw w _ (k_lane r xb nw w) 3 384 rfl
  case piece12 =>
    refine at_key xb nw w tab _ 2 (fun r l => ?_) x y (by omega) (by omega)
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    exact k_fin tab r l xb nw w _ (k_lane r xb nw w) 2 256 rfl
  case piece13 =>
    refine at_key xb nw w tab _ 1 (fun r l => ?_) x y (by omega) (by omega)
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    exact k_fin tab r l xb nw w _ (k_lane r xb nw w) 1 128 rfl
  case piece14 =>
    refine at_key xb nw w tab _ 0 (fun r l => ?_) x y (by omega) (by omega)
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    have := k_fin tab r l xb nw w _ (k_lane r xb nw w) 0 0 rfl; simp only [Nat.zero_add] at this ⊢; exact this
  case piece15 =>
    refine at_query xb nw w tab _ 7 (fun r l => ?_) x y (by omega) (by omega)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane r xb nw w) 7 896 rfl
  case piece16 =>
    refine at_query xb nw w tab _ 6 (fun r l => ?_) x y (by omega) (by omega)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane r xb nw w) 6 768 rfl
  case piece17 =>
    refine at_query xb nw w tab _ 5 (fun r l => ?_) x y (by omega) (by omega)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane r xb nw w) 5 640 rfl
  case piece18 =>
    refine at_query xb nw w tab _ 4 (fun r l => ?_) x y (by omega) (by omega)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane r xb nw w) 4 512 rfl
  case piece19 =>
    refine at_query xb nw w tab _ 3 (fun r l => ?_) x y (by omega) (by omega)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane r xb nw w) 3 384 rfl
  case piece20 =>
    refine at_query xb nw w tab _ 2 (fun r l => ?_) x y (by omega) (by omega)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane r xb nw w) 2 256 rfl
  case piece21 =>
    refine at_query xb nw w tab _ 1 (fun r l => ?_) x y (by omega) (by omega)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane r xb nw w) 1 128 rfl
  case piece22 =>
    refine at_query xb nw w tab _ 0 (fun r l => ?_) x y (by omega) (by omega)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    have := q_fin tab r l xb nw w _ (q_lane r xb nw w) 0 0 rfl; simp only [Nat.zero_add] at this ⊢; exact this

/-- The narrow result's block. -/
theorem block5 (y : S512x128.Idx) : out0_A_5 (F := Ideal) c i arg1 harg1 arg2 harg2 arg3 harg3 arg4 harg4 arg5 harg5 arg6 harg6 arg7 harg7 arg8 harg8 arg9 harg9 xb nw w tab y
    = narrow (row xb (y 0)) (row nw 0) (wt w) (y 1) := by
  idx_vars y
  frame_out
  exact small_eq y0 y1 xb nw w

/-- A piece of the key means. -/
theorem at_mean (P : FVec Ideal S1x1x128 .f32) (g h : ℕ) (hg : g < 2) (hh : h < 8)
    (hP : ∀ (f : Fin 256 → Fin 512), (∀ r, (f r : ℕ) = 256 * g + r) → ∀ (a b : Fin 1) (l : Fin 128),
      P (ix3 a b l) = mean (row nw 0) (wt w) (fun r => row xb (f r)) (fun r => row tab (f r)) ⟨h, hh⟩ l)
    (x : S1x1x128.Idx) (y0 : Fin 1) (y1 : Fin 2) (y2 : Fin 1024) (h1 : (y1 : ℕ) = g) (h2 : (y2 : ℕ) = 128 * h + x 2) :
    P x = mean (row nw 0) (wt w) (fun r => row xb ⟨256 * y1 + r, by omega⟩)
      (fun r => row tab ⟨256 * y1 + r, by omega⟩) ⟨y2 / 128, by omega⟩ ⟨y2 % 128, by omega⟩ := by
  idx_vars x
  have h2 : (y2 : ℕ) = 128 * h + x2 := h2
  have b := x2.isLt
  refine (hP (fun r => ⟨256 * y1 + r, by omega⟩) (fun r => by dsimp only; omega) x0 x1 x2).trans ?_
  congr 1 <;> exact Fin.ext (by dsimp only; omega)

/-- The key means' block. -/
theorem block6 (y0 : Fin 1) (y1 : Fin 2) (y2 : Fin 1024) : out0_A_6 (F := Ideal) c i arg1 harg1 arg2 harg2 arg3 harg3 arg4 harg4 arg5 harg5 arg6 harg6 arg7 harg7 arg8 harg8 arg9 harg9 xb nw w tab (ix3 y0 y1 y2)
    = mean (row nw 0) (wt w) (fun r => row xb ⟨256 * y1 + r, by omega⟩)
      (fun r => row tab ⟨256 * y1 + r, by omega⟩) ⟨y2 / 128, by omega⟩ ⟨y2 % 128, by omega⟩ := by
  frame_out
  canon_tiles x h
  case piece0 =>
    refine at_mean xb nw w tab _ 1 7 (by omega) (by omega) (fun f hf a b l => ?_) x y0 y1 y2 (by simpa using h1) (by simpa using h2)
    obtain ⟨p, rfl⟩ : ∃ p : ∀ r : Fin 256, 256 + (r : ℕ) < 512, f = fun r => ⟨256 + (r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨256 + (r : ℕ), p r⟩ l xb nw w _ (k_lane _ xb nw w) 7 896 rfl
  case piece1 =>
    refine at_mean xb nw w tab _ 0 7 (by omega) (by omega) (fun f hf a b l => ?_) x y0 y1 y2 (by simpa using h1) (by simpa using h2)
    obtain ⟨p, rfl⟩ : ∃ p : ∀ r : Fin 256, (r : ℕ) < 512, f = fun r => ⟨(r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨(r : ℕ), p r⟩ l xb nw w _ (k_lane _ xb nw w) 7 896 rfl
  case piece2 =>
    refine at_mean xb nw w tab _ 1 6 (by omega) (by omega) (fun f hf a b l => ?_) x y0 y1 y2 (by simpa using h1) (by simpa using h2)
    obtain ⟨p, rfl⟩ : ∃ p : ∀ r : Fin 256, 256 + (r : ℕ) < 512, f = fun r => ⟨256 + (r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨256 + (r : ℕ), p r⟩ l xb nw w _ (k_lane _ xb nw w) 6 768 rfl
  case piece3 =>
    refine at_mean xb nw w tab _ 0 6 (by omega) (by omega) (fun f hf a b l => ?_) x y0 y1 y2 (by simpa using h1) (by simpa using h2)
    obtain ⟨p, rfl⟩ : ∃ p : ∀ r : Fin 256, (r : ℕ) < 512, f = fun r => ⟨(r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨(r : ℕ), p r⟩ l xb nw w _ (k_lane _ xb nw w) 6 768 rfl
  case piece4 =>
    refine at_mean xb nw w tab _ 1 5 (by omega) (by omega) (fun f hf a b l => ?_) x y0 y1 y2 (by simpa using h1) (by simpa using h2)
    obtain ⟨p, rfl⟩ : ∃ p : ∀ r : Fin 256, 256 + (r : ℕ) < 512, f = fun r => ⟨256 + (r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨256 + (r : ℕ), p r⟩ l xb nw w _ (k_lane _ xb nw w) 5 640 rfl
  case piece5 =>
    refine at_mean xb nw w tab _ 0 5 (by omega) (by omega) (fun f hf a b l => ?_) x y0 y1 y2 (by simpa using h1) (by simpa using h2)
    obtain ⟨p, rfl⟩ : ∃ p : ∀ r : Fin 256, (r : ℕ) < 512, f = fun r => ⟨(r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨(r : ℕ), p r⟩ l xb nw w _ (k_lane _ xb nw w) 5 640 rfl
  case piece6 =>
    refine at_mean xb nw w tab _ 1 4 (by omega) (by omega) (fun f hf a b l => ?_) x y0 y1 y2 (by simpa using h1) (by simpa using h2)
    obtain ⟨p, rfl⟩ : ∃ p : ∀ r : Fin 256, 256 + (r : ℕ) < 512, f = fun r => ⟨256 + (r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨256 + (r : ℕ), p r⟩ l xb nw w _ (k_lane _ xb nw w) 4 512 rfl
  case piece7 =>
    refine at_mean xb nw w tab _ 0 4 (by omega) (by omega) (fun f hf a b l => ?_) x y0 y1 y2 (by simpa using h1) (by simpa using h2)
    obtain ⟨p, rfl⟩ : ∃ p : ∀ r : Fin 256, (r : ℕ) < 512, f = fun r => ⟨(r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨(r : ℕ), p r⟩ l xb nw w _ (k_lane _ xb nw w) 4 512 rfl
  case piece8 =>
    refine at_mean xb nw w tab _ 1 3 (by omega) (by omega) (fun f hf a b l => ?_) x y0 y1 y2 (by simpa using h1) (by simpa using h2)
    obtain ⟨p, rfl⟩ : ∃ p : ∀ r : Fin 256, 256 + (r : ℕ) < 512, f = fun r => ⟨256 + (r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨256 + (r : ℕ), p r⟩ l xb nw w _ (k_lane _ xb nw w) 3 384 rfl
  case piece9 =>
    refine at_mean xb nw w tab _ 0 3 (by omega) (by omega) (fun f hf a b l => ?_) x y0 y1 y2 (by simpa using h1) (by simpa using h2)
    obtain ⟨p, rfl⟩ : ∃ p : ∀ r : Fin 256, (r : ℕ) < 512, f = fun r => ⟨(r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨(r : ℕ), p r⟩ l xb nw w _ (k_lane _ xb nw w) 3 384 rfl
  case piece10 =>
    refine at_mean xb nw w tab _ 1 2 (by omega) (by omega) (fun f hf a b l => ?_) x y0 y1 y2 (by simpa using h1) (by simpa using h2)
    obtain ⟨p, rfl⟩ : ∃ p : ∀ r : Fin 256, 256 + (r : ℕ) < 512, f = fun r => ⟨256 + (r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨256 + (r : ℕ), p r⟩ l xb nw w _ (k_lane _ xb nw w) 2 256 rfl
  case piece11 =>
    refine at_mean xb nw w tab _ 0 2 (by omega) (by omega) (fun f hf a b l => ?_) x y0 y1 y2 (by simpa using h1) (by simpa using h2)
    obtain ⟨p, rfl⟩ : ∃ p : ∀ r : Fin 256, (r : ℕ) < 512, f = fun r => ⟨(r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨(r : ℕ), p r⟩ l xb nw w _ (k_lane _ xb nw w) 2 256 rfl
  case piece12 =>
    refine at_mean xb nw w tab _ 1 1 (by omega) (by omega) (fun f hf a b l => ?_) x y0 y1 y2 (by simpa using h1) (by simpa using h2)
    obtain ⟨p, rfl⟩ : ∃ p : ∀ r : Fin 256, 256 + (r : ℕ) < 512, f = fun r => ⟨256 + (r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨256 + (r : ℕ), p r⟩ l xb nw w _ (k_lane _ xb nw w) 1 128 rfl
  case piece13 =>
    refine at_mean xb nw w tab _ 0 1 (by omega) (by omega) (fun f hf a b l => ?_) x y0 y1 y2 (by simpa using h1) (by simpa using h2)
    obtain ⟨p, rfl⟩ : ∃ p : ∀ r : Fin 256, (r : ℕ) < 512, f = fun r => ⟨(r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    exact k_fin tab ⟨(r : ℕ), p r⟩ l xb nw w _ (k_lane _ xb nw w) 1 128 rfl
  case piece14 =>
    refine at_mean xb nw w tab _ 1 0 (by omega) (by omega) (fun f hf a b l => ?_) x y0 y1 y2 (by simpa using h1) (by simpa using h2)
    obtain ⟨p, rfl⟩ : ∃ p : ∀ r : Fin 256, 256 + (r : ℕ) < 512, f = fun r => ⟨256 + (r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    have := k_fin tab ⟨256 + (r : ℕ), p r⟩ l xb nw w _ (k_lane _ xb nw w) 0 0 rfl; simp only [Nat.zero_add] at this ⊢; exact this
  case piece15 =>
    refine at_mean xb nw w tab _ 0 0 (by omega) (by omega) (fun f hf a b l => ?_) x y0 y1 y2 (by simpa using h1) (by simpa using h2)
    obtain ⟨p, rfl⟩ : ∃ p : ∀ r : Fin 256, (r : ℕ) < 512, f = fun r => ⟨(r : ℕ), p r⟩ :=
      ⟨fun r => by omega, funext fun r => Fin.ext ((hf r).trans (by dsimp only; try omega))⟩
    pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
    unfold mean
    rw [mul_inv_block]
    refine congrArg (Ideal.div · block) (Finset.sum_congr rfl fun r _ => ?_)
    have := k_fin tab ⟨(r : ℕ), p r⟩ l xb nw w _ (k_lane _ xb nw w) 0 0 rfl; simp only [Nat.zero_add] at this ⊢; exact this

/-- A piece of the values turned over. -/
theorem at_val (P : FVec Ideal S1x1x128x256 .bf16) (g h : ℕ) (hg : g < 2) (hh : h < 8)
    (hP : ∀ (k : Fin 256) (r : Fin 512), (r : ℕ) = 256 * g + k → ∀ (a b : Fin 1) (d : Fin 128),
      P (ix4 a b d k) = val (row xb r) (row nw 0) (wt w) ⟨h, hh⟩ d)
    (x : S1x1x128x256.Idx) (y0 : Fin 8) (y1 : Fin 2) (y2 : Fin 144) (y3 : Fin 256) (h0 : (y0 : ℕ) = h) (h1 : (y1 : ℕ) = g)
    (h2 : (y2 : ℕ) = x 2) (h3 : (y3 : ℕ) = x 3) :
    P x = turned (row xb ⟨256 * y1 + y3, by omega⟩) (row nw 0) (wt w) y0 y2 := by
  idx_vars x
  have h2 : (y2 : ℕ) = x2 := h2
  have h3 : (y3 : ℕ) = x3 := h3
  have b := x2.isLt
  refine (hP x3 ⟨256 * y1 + y3, by omega⟩ (by dsimp only; omega) x0 x1 x2).trans ?_
  unfold turned
  rw [dif_pos (by omega)]
  congr 1 <;> exact Fin.ext (by dsimp only; omega)

/-- A piece of ones. -/
theorem at_ones (P : FVec Ideal S1x1x16x256 .bf16) (hP : ∀ (a b : Fin 1) (d : Fin 16) (k : Fin 256), P (ix4 a b d k) = 1)
    (x : S1x1x16x256.Idx) (v : Fin 1024 → EReal) (y0 : Fin 8) (y2 : Fin 144) (h2 : (y2 : ℕ) = 128 + x 2) :
    P x = turned v (row nw 0) (wt w) y0 y2 := by
  idx_vars x
  have h2 : (y2 : ℕ) = 128 + x2 := h2
  refine (hP x0 x1 x2 x3).trans ?_
  unfold turned
  rw [dif_neg (by omega)]

/-- The values' block, turned over. -/
theorem block7 (y0 : Fin 8) (y1 : Fin 2) (y2 : Fin 144) (y3 : Fin 256) :
    out0_A_7 (F := Ideal) c i arg1 harg1 arg2 harg2 arg3 harg3 arg4 harg4 arg5 harg5 arg6 harg6 arg7 harg7 arg8 harg8 arg9 harg9 xb nw w tab (ix4 y0 y1 y2 y3)
    = turned (row xb ⟨256 * y1 + y3, by omega⟩) (row nw 0) (wt w) y0 y2 := by
  frame_out
  canon_tiles x h using View.cover_of_tiledBy _ ![1, 1, 16, 256] (by sl_kernel_rfl) (ix4 y0 y1 y2 y3)
  case piece0 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece1 =>
    refine at_val xb nw w _ 1 7 (by omega) (by omega) (fun k r hr a b d => ?_) x y0 y1 y2 y3 (by simpa using h0) (by simpa using h1) (by simpa using h2) (by simpa using h3)
    obtain ⟨p, rfl⟩ : ∃ p : 256 + (k : ℕ) < 512, r = ⟨256 + (k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece2 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece3 =>
    refine at_val xb nw w _ 0 7 (by omega) (by omega) (fun k r hr a b d => ?_) x y0 y1 y2 y3 (by simpa using h0) (by simpa using h1) (by simpa using h2) (by simpa using h3)
    obtain ⟨p, rfl⟩ : ∃ p : (k : ℕ) < 512, r = ⟨(k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece4 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece5 =>
    refine at_val xb nw w _ 1 6 (by omega) (by omega) (fun k r hr a b d => ?_) x y0 y1 y2 y3 (by simpa using h0) (by simpa using h1) (by simpa using h2) (by simpa using h3)
    obtain ⟨p, rfl⟩ : ∃ p : 256 + (k : ℕ) < 512, r = ⟨256 + (k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece6 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece7 =>
    refine at_val xb nw w _ 0 6 (by omega) (by omega) (fun k r hr a b d => ?_) x y0 y1 y2 y3 (by simpa using h0) (by simpa using h1) (by simpa using h2) (by simpa using h3)
    obtain ⟨p, rfl⟩ : ∃ p : (k : ℕ) < 512, r = ⟨(k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece8 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece9 =>
    refine at_val xb nw w _ 1 5 (by omega) (by omega) (fun k r hr a b d => ?_) x y0 y1 y2 y3 (by simpa using h0) (by simpa using h1) (by simpa using h2) (by simpa using h3)
    obtain ⟨p, rfl⟩ : ∃ p : 256 + (k : ℕ) < 512, r = ⟨256 + (k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece10 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece11 =>
    refine at_val xb nw w _ 0 5 (by omega) (by omega) (fun k r hr a b d => ?_) x y0 y1 y2 y3 (by simpa using h0) (by simpa using h1) (by simpa using h2) (by simpa using h3)
    obtain ⟨p, rfl⟩ : ∃ p : (k : ℕ) < 512, r = ⟨(k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece12 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece13 =>
    refine at_val xb nw w _ 1 4 (by omega) (by omega) (fun k r hr a b d => ?_) x y0 y1 y2 y3 (by simpa using h0) (by simpa using h1) (by simpa using h2) (by simpa using h3)
    obtain ⟨p, rfl⟩ : ∃ p : 256 + (k : ℕ) < 512, r = ⟨256 + (k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece14 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece15 =>
    refine at_val xb nw w _ 0 4 (by omega) (by omega) (fun k r hr a b d => ?_) x y0 y1 y2 y3 (by simpa using h0) (by simpa using h1) (by simpa using h2) (by simpa using h3)
    obtain ⟨p, rfl⟩ : ∃ p : (k : ℕ) < 512, r = ⟨(k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece16 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece17 =>
    refine at_val xb nw w _ 1 3 (by omega) (by omega) (fun k r hr a b d => ?_) x y0 y1 y2 y3 (by simpa using h0) (by simpa using h1) (by simpa using h2) (by simpa using h3)
    obtain ⟨p, rfl⟩ : ∃ p : 256 + (k : ℕ) < 512, r = ⟨256 + (k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece18 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece19 =>
    refine at_val xb nw w _ 0 3 (by omega) (by omega) (fun k r hr a b d => ?_) x y0 y1 y2 y3 (by simpa using h0) (by simpa using h1) (by simpa using h2) (by simpa using h3)
    obtain ⟨p, rfl⟩ : ∃ p : (k : ℕ) < 512, r = ⟨(k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece20 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece21 =>
    refine at_val xb nw w _ 1 2 (by omega) (by omega) (fun k r hr a b d => ?_) x y0 y1 y2 y3 (by simpa using h0) (by simpa using h1) (by simpa using h2) (by simpa using h3)
    obtain ⟨p, rfl⟩ : ∃ p : 256 + (k : ℕ) < 512, r = ⟨256 + (k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece22 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece23 =>
    refine at_val xb nw w _ 0 2 (by omega) (by omega) (fun k r hr a b d => ?_) x y0 y1 y2 y3 (by simpa using h0) (by simpa using h1) (by simpa using h2) (by simpa using h3)
    obtain ⟨p, rfl⟩ : ∃ p : (k : ℕ) < 512, r = ⟨(k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece24 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece25 =>
    refine at_val xb nw w _ 1 1 (by omega) (by omega) (fun k r hr a b d => ?_) x y0 y1 y2 y3 (by simpa using h0) (by simpa using h1) (by simpa using h2) (by simpa using h3)
    obtain ⟨p, rfl⟩ : ∃ p : 256 + (k : ℕ) < 512, r = ⟨256 + (k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece26 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece27 =>
    refine at_val xb nw w _ 0 1 (by omega) (by omega) (fun k r hr a b d => ?_) x y0 y1 y2 y3 (by simpa using h0) (by simpa using h1) (by simpa using h2) (by simpa using h3)
    obtain ⟨p, rfl⟩ : ∃ p : (k : ℕ) < 512, r = ⟨(k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece28 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece29 =>
    refine at_val xb nw w _ 1 0 (by omega) (by omega) (fun k r hr a b d => ?_) x y0 y1 y2 y3 (by simpa using h0) (by simpa using h1) (by simpa using h2) (by simpa using h3)
    obtain ⟨p, rfl⟩ : ∃ p : 256 + (k : ℕ) < 512, r = ⟨256 + (k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))
  case piece30 =>
    refine at_ones nw w _ (fun a b d k => ?_) x _ y0 y2 (by simpa using h2)
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
  case piece31 =>
    refine at_val xb nw w _ 0 0 (by omega) (by omega) (fun k r hr a b d => ?_) x y0 y1 y2 y3 (by simpa using h0) (by simpa using h1) (by simpa using h2) (by simpa using h3)
    obtain ⟨p, rfl⟩ : ∃ p : (k : ℕ) < 512, r = ⟨(k : ℕ), p⟩ := ⟨by omega, Fin.ext (hr.trans (by dsimp only; try omega))⟩
    pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113]
    exact (v_lane _ xb nw w _).trans (congrArg (lane _ _ _) (Fin.ext (by dsimp only; try omega)))

/-- A query head's piece of the query result. -/
theorem at_head (P : FVec Ideal S1x512x128 .f32) (h : ℕ) (hh : h < 8)
    (hP : ∀ (a : Fin 1) (r : Fin 512) (l : Fin 128),
      P (ix3 a r l) = query (row xb r) (row nw 0) (wt w) (row tab r) ⟨h, hh⟩ l)
    (x : S1x512x128.Idx) (y0 : Fin 8) (y1 : Fin 512) (y2 : Fin 128) (h0 : (y0 : ℕ) = h) (h1 : (y1 : ℕ) = x 1)
    (h2 : (y2 : ℕ) = x 2) : P x = query (row xb y1) (row nw 0) (wt w) (row tab y1) y0 y2 := by
  idx_vars x
  obtain rfl : y0 = ⟨h, hh⟩ := Fin.ext h0
  obtain rfl : y1 = x1 := Fin.ext h1
  obtain rfl : y2 = x2 := Fin.ext h2
  exact hP x0 y1 y2

/-- The query result's block. -/
theorem block8 (y0 : Fin 8) (y1 : Fin 512) (y2 : Fin 128) : out0_A_8 (F := Ideal) c i arg1 harg1 arg2 harg2 arg3 harg3 arg4 harg4 arg5 harg5 arg6 harg6 arg7 harg7 arg8 harg8 arg9 harg9 xb nw w tab (ix3 y0 y1 y2)
    = query (row xb y1) (row nw 0) (wt w) (row tab y1) y0 y2 := by
  frame_out
  canon_tiles x h
  case piece0 =>
    refine at_head xb nw w tab _ 7 (by omega) (fun a r l => ?_) x y0 y1 y2 (by simpa using h0) (by simpa using h1) (by simpa using h2)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane _ xb nw w) 7 896 rfl
  case piece1 =>
    refine at_head xb nw w tab _ 6 (by omega) (fun a r l => ?_) x y0 y1 y2 (by simpa using h0) (by simpa using h1) (by simpa using h2)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane _ xb nw w) 6 768 rfl
  case piece2 =>
    refine at_head xb nw w tab _ 5 (by omega) (fun a r l => ?_) x y0 y1 y2 (by simpa using h0) (by simpa using h1) (by simpa using h2)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane _ xb nw w) 5 640 rfl
  case piece3 =>
    refine at_head xb nw w tab _ 4 (by omega) (fun a r l => ?_) x y0 y1 y2 (by simpa using h0) (by simpa using h1) (by simpa using h2)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane _ xb nw w) 4 512 rfl
  case piece4 =>
    refine at_head xb nw w tab _ 3 (by omega) (fun a r l => ?_) x y0 y1 y2 (by simpa using h0) (by simpa using h1) (by simpa using h2)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane _ xb nw w) 3 384 rfl
  case piece5 =>
    refine at_head xb nw w tab _ 2 (by omega) (fun a r l => ?_) x y0 y1 y2 (by simpa using h0) (by simpa using h1) (by simpa using h2)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane _ xb nw w) 2 256 rfl
  case piece6 =>
    refine at_head xb nw w tab _ 1 (by omega) (fun a r l => ?_) x y0 y1 y2 (by simpa using h0) (by simpa using h1) (by simpa using h2)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    exact q_fin tab r l xb nw w _ (q_lane _ xb nw w) 1 128 rfl
  case piece7 =>
    refine at_head xb nw w tab _ 0 (by omega) (fun a r l => ?_) x y0 y1 y2 (by simpa using h0) (by simpa using h1) (by simpa using h2)
    pointwise [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    have := q_fin tab r l xb nw w _ (q_lane _ xb nw w) 0 0 rfl; simp only [Nat.zero_add] at this ⊢; exact this

end Cert.Kernel2Ideal.Proj
-- ==== Proof.ProjKernel.lean ====
module

public import proofs.«01_k».proof.Proof.ProjBlocks
public import Idealize.ShloMosaic.Lib.Pipeline.ValueKit

/-! # The projection kernel's result arrays after the run -/

@[expose] public section

set_option maxRecDepth 16384

noncomputable section

namespace Cert.Kernel2Ideal.Proj

open Cert.Kernel2Ideal Cert.Kernel2Ideal.Gen Idealize.ShloMosaic Idealize.SL.Sem
open Idealize.ShloMosaic.TcCoe Cert.Ffn Cert.Proj

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0, 0] ∧ win0_7.index t = ![0, t.val, 0, 0] ∧ win0_8.index t = ![0, t.val, 0] := (by decide +kernel : ∀ t : Fin grid0.N, _)

theorem final4 (c : Dev nD) : (dats m 0 c).arrAt 4 cfg0.N
    = wideOf (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  dsimp only
  refine (block4 _ _ _ _ _ _ _ _ _ _ _ _ _ _ _ _ _ _ _ _ _ _ _ _ y).trans ?_
  unfold wideOf
  refine wide_congr ?_ ?_ ?_ ?_ ?_
  · intro k; dsimp only [row]; blk_ext [iblk, V, idx t]
  · intro k; dsimp only [row]; blk_ext [iblk, V, idx t]
  · intro k l; dsimp only [mat, wt]; blk_point [iblk, V, idx t]
  · intro k; dsimp only [row]; blk_ext [iblk, V, idx t]
  · refine Fin.ext ?_
    blk_simp [idx t]
    try omega

theorem final5 (c : Dev nD) : (dats m 0 c).arrAt 5 cfg0.N
    = narrowOf (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold outsAt0
  dsimp only
  refine (block5 _ _ _ _ _ _ _ _ _ _ _ _ _ _ _ _ _ _ _ _ _ _ _ _ y).trans ?_
  unfold narrowOf
  refine narrow_congr ?_ ?_ ?_ ?_
  · intro k; dsimp only [row]; blk_ext [iblk, V, idx t]
  · intro k; dsimp only [row]; blk_ext [iblk, V, idx t]
  · intro k l; dsimp only [mat, wt]; blk_point [iblk, V, idx t]
  · refine Fin.ext ?_
    blk_simp [idx t]
    try omega

theorem final6 (c : Dev nD) : (dats m 0 c).arrAt 6 cfg0.N
    = meanOf (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  unfold outsAt0
  dsimp only
  idx_vars y
  refine (block6 _ _ _ _ _ _ _ _ _ _ _ _ _ _ _ _ _ _ _ _ _ _ _ _ y0 y1 y2).trans ?_
  unfold meanOf
  dsimp only
  refine mean_congr ?_ ?_ ?_ ?_ ?_ ?_
  · intro r k; dsimp only [row]; blk_ext [iblk, V, idx t]
  · intro k; dsimp only [row]; blk_ext [iblk, V, idx t]
  · intro k l; dsimp only [mat, wt]; blk_point [iblk, V, idx t]
  · intro r k; dsimp only [row]; blk_ext [iblk, V, idx t]
  · refine Fin.ext ?_
    blk_simp [idx t]
    try omega
  · refine Fin.ext ?_
    blk_simp [idx t]
    try omega

theorem final7 (c : Dev nD) : (dats m 0 c).arrAt 7 cfg0.N
    = turnedOf (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  unfold outsAt0
  dsimp only
  idx_vars y
  refine (block7 _ _ _ _ _ _ _ _ _ _ _ _ _ _ _ _ _ _ _ _ _ _ _ _ y0 y1 y2 y3).trans ?_
  unfold turnedOf
  dsimp only
  refine turned_congr ?_ ?_ ?_ ?_ ?_
  · intro k; dsimp only [row]; blk_ext [iblk, V, idx t]
  · intro k; dsimp only [row]; blk_ext [iblk, V, idx t]
  · intro k l; dsimp only [mat, wt]; blk_point [iblk, V, idx t]
  · refine Fin.ext ?_
    blk_simp [idx t]
    try omega
  · refine Fin.ext ?_
    blk_simp [idx t]
    try omega

theorem final8 (c : Dev nD) : (dats m 0 c).arrAt 8 cfg0.N
    = queryOf (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  unfold outsAt0
  dsimp only
  idx_vars y
  refine (block8 _ _ _ _ _ _ _ _ _ _ _ _ _ _ _ _ _ _ _ _ _ _ _ _ y0 y1 y2).trans ?_
  unfold queryOf
  refine query_congr ?_ ?_ ?_ ?_ ?_ ?_
  · intro k; dsimp only [row]; blk_ext [iblk, V, idx t]
  · intro k; dsimp only [row]; blk_ext [iblk, V, idx t]
  · intro k l; dsimp only [mat, wt]; blk_point [iblk, V, idx t]
  · intro k; dsimp only [row]; blk_ext [iblk, V, idx t]
  · refine Fin.ext ?_
    blk_simp [idx t]
    try omega
  · refine Fin.ext ?_
    blk_simp [idx t]
    try omega

end Cert.Kernel2Ideal.Proj
-- ==== Proof.ProjReference.lean ====
module

public import proofs.«01_k».proof.Proof.ProjModel
public import proofs.«01_k».proof.Proof.Gen.Reference2Ideal.Run
public import Idealize.ShloMosaic.Lib.Pipeline.ValueKit
public import Idealize.ShloMosaic.Lib.KernelVsHost

/-! # What the projection's reference computes: the model's lanes, row by row -/

@[expose] public section

set_option maxRecDepth 16384

noncomputable section

namespace Cert.Reference2Ideal.Proj

open Cert.Reference2Ideal Cert.Reference2Ideal.Gen Cert.Reference2Ideal.Value Idealize.ShloMosaic Idealize.SL.Sem
open Idealize.ShloMosaic.TcCoe Cert.Ffn Cert.Proj

variable (m : (ℓ : Loc nD τ sig) → Buf (Elt Ideal) ℓ) (c : Dev nD)

/-- An argument array of the reference, as a function of its index. -/
abbrev a0 : S16384x1024.Idx → EReal := m ((c.tc : Thread nD τ).loc main_arg0)
abbrev a1 : S1x1024.Idx → EReal := m ((c.tc : Thread nD τ).loc main_arg1)
abbrev a2 : S1024x9232.Idx → EReal := m ((c.tc : Thread nD τ).loc main_arg2)
abbrev a3 : S16384x128.Idx → EReal := m ((c.tc : Thread nD τ).loc main_arg3)

/-- The projected rows. -/
abbrev prod : FVec Ideal S16384x9232 .f32 := Host.dotGeneral (F := Ideal) (φ₁ := .f32) (φ₂ := .f32) dot_S16384x1024_S1024x9232_S16384x9232_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (m ((c.tc : Thread nD τ).loc main_arg2))

theorem prod_eq (r : Fin 16384) (n : Fin 9232) : prod m c (ix2 r n) = lane (row (a0 m c) r) (row (a1 m c) 0) (mat (a2 m c)) n := by
  show (show FVec Ideal S16384x9232 .f32 from prod m c) (ix2 r n) = _
  pointwise [prod]
  rfl

/-- A head turned pair by pair in three lane groups: the model's turn. -/
theorem turn_groups {l : ℕ} {d32 : Decidable (l < 32)} {d16 : Decidable (l < 16)} (a t : Fin 128 → EReal) (hl : l < 128)
    {z : EReal} (hz : z = a ⟨l, hl⟩) :
    (if h : l < 32 then
        if h' : l < 16 then z * t ⟨l, hl⟩ - a ⟨16 + l, by omega⟩ * t ⟨16 + l, by omega⟩
        else a ⟨16 + (l - 16), by omega⟩ * t ⟨l - 16, by omega⟩ + a ⟨l - 16, by omega⟩ * t ⟨16 + (l - 16), by omega⟩
      else a ⟨32 + (l - 32), by omega⟩) = turn a t ⟨l, hl⟩ := by
  subst hz
  unfold turn
  dsimp only
  by_cases h1 : l < 16
  · rw [dif_pos (by omega), dif_pos h1, dif_pos h1]
    simp only [Nat.add_comm 16]
  · by_cases h2 : l < 32
    · rw [dif_pos h2, dif_neg h1, dif_neg h1, dif_pos h2]
      simp only [show 16 + (l - 16) = l by omega]
    · rw [dif_neg h2, dif_neg h1, dif_neg h2]
      simp only [show 32 + (l - 32) = l by omega]

section Terms

variable (p : FVec Ideal S16384x9232 .f32) (t : FVec Ideal S16384x128 .f32)

/-- The queries of the projected rows `p` with the angles `t`. -/
theorem queries_of (i0 : Fin 8) (i1 : Fin 16384) (i2 : Fin 128) : (transpose S8x16384x128 [1, 0, 2] (mulf (concatenate S16384x8x128 2 [⟨S16384x8x32, (concatenate S16384x8x32 2 [⟨S16384x8x16, (subf (mulf (extractStridedSlice S16384x8x16 ![0, 0, 0] (shapeCast _ (extractStridedSlice S16384x1024 ![0, 0] p slices_S16384x9232_S16384x1024_0_0) shapeCasts_S16384x1024_S16384x8x128) slices_S16384x8x128_S16384x8x16_0_0_0) (broadcastInDim S16384x8x16 ![0, 1, 2] bcast_S16384x1x16_S16384x8x16_0_1_2 (broadcastInDim S16384x1x16 ![0, 2] bcast_S16384x16_S16384x1x16_0_2 (extractStridedSlice S16384x16 ![0, 0] t slices_S16384x128_S16384x16_0_0)))) (mulf (extractStridedSlice S16384x8x16 ![0, 0, 16] (shapeCast _ (extractStridedSlice S16384x1024 ![0, 0] p slices_S16384x9232_S16384x1024_0_0) shapeCasts_S16384x1024_S16384x8x128) slices_S16384x8x128_S16384x8x16_0_0_16) (broadcastInDim S16384x8x16 ![0, 1, 2] bcast_S16384x1x16_S16384x8x16_0_1_2 (broadcastInDim S16384x1x16 ![0, 2] bcast_S16384x16_S16384x1x16_0_2 (extractStridedSlice S16384x16 ![0, 16] t slices_S16384x128_S16384x16_0_16)))))⟩, ⟨S16384x8x16, (addf (mulf (extractStridedSlice S16384x8x16 ![0, 0, 16] (shapeCast _ (extractStridedSlice S16384x1024 ![0, 0] p slices_S16384x9232_S16384x1024_0_0) shapeCasts_S16384x1024_S16384x8x128) slices_S16384x8x128_S16384x8x16_0_0_16) (broadcastInDim S16384x8x16 ![0, 1, 2] bcast_S16384x1x16_S16384x8x16_0_1_2 (broadcastInDim S16384x1x16 ![0, 2] bcast_S16384x16_S16384x1x16_0_2 (extractStridedSlice S16384x16 ![0, 0] t slices_S16384x128_S16384x16_0_0)))) (mulf (extractStridedSlice S16384x8x16 ![0, 0, 0] (shapeCast _ (extractStridedSlice S16384x1024 ![0, 0] p slices_S16384x9232_S16384x1024_0_0) shapeCasts_S16384x1024_S16384x8x128) slices_S16384x8x128_S16384x8x16_0_0_0) (broadcastInDim S16384x8x16 ![0, 1, 2] bcast_S16384x1x16_S16384x8x16_0_1_2 (broadcastInDim S16384x1x16 ![0, 2] bcast_S16384x16_S16384x1x16_0_2 (extractStridedSlice S16384x16 ![0, 16] t slices_S16384x128_S16384x16_0_16)))))⟩] concatenates_S16384x8x16_S16384x8x16_S16384x8x32_d2)⟩, ⟨S16384x8x96, (extractStridedSlice S16384x8x96 ![0, 0, 32] (shapeCast _ (extractStridedSlice S16384x1024 ![0, 0] p slices_S16384x9232_S16384x1024_0_0) shapeCasts_S16384x1024_S16384x8x128) slices_S16384x8x128_S16384x8x96_0_0_32)⟩] concatenates_S16384x8x32_S16384x8x96_S16384x8x128_d2) (broadcastInDim S16384x8x128 ![] bcast_S_S16384x8x128 (constant S_ .f32 0x3E0293EE#32))) transposes_S16384x8x128_S8x16384x128_1_0_2 : FVec Ideal S8x16384x128 .f32) (ix3 i0 i1 i2)
    = turn (fun l => p (ix2 i1 ⟨i0 * 128 + l, by omega⟩)) (row t i1) i2 * scale := by
  pointwise []
  exact congrArg (fun z => z * scale) (turn_groups (fun l => p (ix2 i1 ⟨i0 * 128 + l, by omega⟩)) (row t i1) i2.isLt rfl)

/-- The wide lanes of the projected rows `p` with the angles `t`. -/
theorem wide_of (i0 : Fin 16384) (i1 : Fin 9216) : (truncf .bf16 ((concatenate S16384x9216 1 [⟨S16384x1024, ((shapeCast _ (mulf (concatenate S16384x8x128 2 [⟨S16384x8x32, (concatenate S16384x8x32 2 [⟨S16384x8x16, (subf (mulf (extractStridedSlice S16384x8x16 ![0, 0, 0] (shapeCast _ (extractStridedSlice S16384x1024 ![0, 0] p slices_S16384x9232_S16384x1024_0_0) shapeCasts_S16384x1024_S16384x8x128) slices_S16384x8x128_S16384x8x16_0_0_0) (broadcastInDim S16384x8x16 ![0, 1, 2] bcast_S16384x1x16_S16384x8x16_0_1_2 (broadcastInDim S16384x1x16 ![0, 2] bcast_S16384x16_S16384x1x16_0_2 (extractStridedSlice S16384x16 ![0, 0] t slices_S16384x128_S16384x16_0_0)))) (mulf (extractStridedSlice S16384x8x16 ![0, 0, 16] (shapeCast _ (extractStridedSlice S16384x1024 ![0, 0] p slices_S16384x9232_S16384x1024_0_0) shapeCasts_S16384x1024_S16384x8x128) slices_S16384x8x128_S16384x8x16_0_0_16) (broadcastInDim S16384x8x16 ![0, 1, 2] bcast_S16384x1x16_S16384x8x16_0_1_2 (broadcastInDim S16384x1x16 ![0, 2] bcast_S16384x16_S16384x1x16_0_2 (extractStridedSlice S16384x16 ![0, 16] t slices_S16384x128_S16384x16_0_16)))))⟩, ⟨S16384x8x16, (addf (mulf (extractStridedSlice S16384x8x16 ![0, 0, 16] (shapeCast _ (extractStridedSlice S16384x1024 ![0, 0] p slices_S16384x9232_S16384x1024_0_0) shapeCasts_S16384x1024_S16384x8x128) slices_S16384x8x128_S16384x8x16_0_0_16) (broadcastInDim S16384x8x16 ![0, 1, 2] bcast_S16384x1x16_S16384x8x16_0_1_2 (broadcastInDim S16384x1x16 ![0, 2] bcast_S16384x16_S16384x1x16_0_2 (extractStridedSlice S16384x16 ![0, 0] t slices_S16384x128_S16384x16_0_0)))) (mulf (extractStridedSlice S16384x8x16 ![0, 0, 0] (shapeCast _ (extractStridedSlice S16384x1024 ![0, 0] p slices_S16384x9232_S16384x1024_0_0) shapeCasts_S16384x1024_S16384x8x128) slices_S16384x8x128_S16384x8x16_0_0_0) (broadcastInDim S16384x8x16 ![0, 1, 2] bcast_S16384x1x16_S16384x8x16_0_1_2 (broadcastInDim S16384x1x16 ![0, 2] bcast_S16384x16_S16384x1x16_0_2 (extractStridedSlice S16384x16 ![0, 16] t slices_S16384x128_S16384x16_0_16)))))⟩] concatenates_S16384x8x16_S16384x8x16_S16384x8x32_d2)⟩, ⟨S16384x8x96, (extractStridedSlice S16384x8x96 ![0, 0, 32] (shapeCast _ (extractStridedSlice S16384x1024 ![0, 0] p slices_S16384x9232_S16384x1024_0_0) shapeCasts_S16384x1024_S16384x8x128) slices_S16384x8x128_S16384x8x96_0_0_32)⟩] concatenates_S16384x8x32_S16384x8x96_S16384x8x128_d2) (broadcastInDim S16384x8x128 ![] bcast_S_S16384x8x128 (constant S_ .f32 0x3E0293EE#32))) shapeCasts_S16384x8x128_S16384x1024) : (⟨S16384x1024, .f32⟩ : BufTy).Contents (Elt Ideal))⟩, ⟨S16384x1024, ((shapeCast _ (concatenate S16384x8x128 2 [⟨S16384x8x32, (concatenate S16384x8x32 2 [⟨S16384x8x16, (subf (mulf (extractStridedSlice S16384x8x16 ![0, 0, 0] (shapeCast _ (extractStridedSlice S16384x1024 ![0, 1024] p slices_S16384x9232_S16384x1024_0_1024) shapeCasts_S16384x1024_S16384x8x128) slices_S16384x8x128_S16384x8x16_0_0_0) (broadcastInDim S16384x8x16 ![0, 1, 2] bcast_S16384x1x16_S16384x8x16_0_1_2 (broadcastInDim S16384x1x16 ![0, 2] bcast_S16384x16_S16384x1x16_0_2 (extractStridedSlice S16384x16 ![0, 0] t slices_S16384x128_S16384x16_0_0)))) (mulf (extractStridedSlice S16384x8x16 ![0, 0, 16] (shapeCast _ (extractStridedSlice S16384x1024 ![0, 1024] p slices_S16384x9232_S16384x1024_0_1024) shapeCasts_S16384x1024_S16384x8x128) slices_S16384x8x128_S16384x8x16_0_0_16) (broadcastInDim S16384x8x16 ![0, 1, 2] bcast_S16384x1x16_S16384x8x16_0_1_2 (broadcastInDim S16384x1x16 ![0, 2] bcast_S16384x16_S16384x1x16_0_2 (extractStridedSlice S16384x16 ![0, 16] t slices_S16384x128_S16384x16_0_16)))))⟩, ⟨S16384x8x16, (addf (mulf (extractStridedSlice S16384x8x16 ![0, 0, 16] (shapeCast _ (extractStridedSlice S16384x1024 ![0, 1024] p slices_S16384x9232_S16384x1024_0_1024) shapeCasts_S16384x1024_S16384x8x128) slices_S16384x8x128_S16384x8x16_0_0_16) (broadcastInDim S16384x8x16 ![0, 1, 2] bcast_S16384x1x16_S16384x8x16_0_1_2 (broadcastInDim S16384x1x16 ![0, 2] bcast_S16384x16_S16384x1x16_0_2 (extractStridedSlice S16384x16 ![0, 0] t slices_S16384x128_S16384x16_0_0)))) (mulf (extractStridedSlice S16384x8x16 ![0, 0, 0] (shapeCast _ (extractStridedSlice S16384x1024 ![0, 1024] p slices_S16384x9232_S16384x1024_0_1024) shapeCasts_S16384x1024_S16384x8x128) slices_S16384x8x128_S16384x8x16_0_0_0) (broadcastInDim S16384x8x16 ![0, 1, 2] bcast_S16384x1x16_S16384x8x16_0_1_2 (broadcastInDim S16384x1x16 ![0, 2] bcast_S16384x16_S16384x1x16_0_2 (extractStridedSlice S16384x16 ![0, 16] t slices_S16384x128_S16384x16_0_16)))))⟩] concatenates_S16384x8x16_S16384x8x16_S16384x8x32_d2)⟩, ⟨S16384x8x96, (extractStridedSlice S16384x8x96 ![0, 0, 32] (shapeCast _ (extractStridedSlice S16384x1024 ![0, 1024] p slices_S16384x9232_S16384x1024_0_1024) shapeCasts_S16384x1024_S16384x8x128) slices_S16384x8x128_S16384x8x96_0_0_32)⟩] concatenates_S16384x8x32_S16384x8x96_S16384x8x128_d2) shapeCasts_S16384x8x128_S16384x1024) : (⟨S16384x1024, .f32⟩ : BufTy).Contents (Elt Ideal))⟩, ⟨S16384x5120, ((extractStridedSlice S16384x5120 ![0, 2048] p slices_S16384x9232_S16384x5120_0_2048) : (⟨S16384x5120, .f32⟩ : BufTy).Contents (Elt Ideal))⟩, ⟨S16384x2048, ((extractStridedSlice S16384x2048 ![0, 7184] p slices_S16384x9232_S16384x2048_0_7184) : (⟨S16384x2048, .f32⟩ : BufTy).Contents (Elt Ideal))⟩] concatenates_S16384x1024_S16384x1024_S16384x5120_S16384x2048_S16384x9216_d1 : (⟨S16384x9216, .f32⟩ : BufTy).Contents (Elt Ideal))) bitsLt_bf16_f32 : FVec Ideal S16384x9216 .bf16) (ix2 i0 i1)
    = if h : (i1 : ℕ) < 1024 then
        turn (fun l => p (ix2 i0 ⟨i1 / 128 * 128 + l, by omega⟩)) (row t i0) ⟨i1 % 128, by omega⟩ * scale
      else if h : (i1 : ℕ) < 2048 then
        turn (fun l => p (ix2 i0 ⟨1024 + ((i1 - 1024) / 128 * 128 + l), by omega⟩)) (row t i0) ⟨(i1 - 1024) % 128, by omega⟩
      else if h : (i1 : ℕ) < 7168 then p (ix2 i0 ⟨i1, by omega⟩) else p (ix2 i0 ⟨16 + i1, by omega⟩) := by
  pointwise []
  by_cases h1 : (i1 : ℕ) < 1024
  · refine (dif_pos h1).trans (Eq.trans ?_ (dif_pos h1).symm)
    exact congrArg (fun z => z * scale)
      (turn_groups (fun l => p (ix2 i0 ⟨i1 / 128 * 128 + l, by omega⟩)) (row t i0) (Nat.mod_lt _ (by decide)) rfl)
  · refine (dif_neg h1).trans (Eq.trans ?_ (dif_neg h1).symm)
    by_cases h2 : (i1 : ℕ) < 2048
    · refine (dif_pos (by omega)).trans (Eq.trans ?_ (dif_pos h2).symm)
      exact turn_groups (fun l => p (ix2 i0 ⟨1024 + ((i1 - 1024) / 128 * 128 + l), by omega⟩)) (row t i0) (Nat.mod_lt _ (by decide)) rfl
    · refine (dif_neg (by omega)).trans (Eq.trans ?_ (dif_neg h2).symm)
      by_cases h3 : (i1 : ℕ) < 7168
      · refine (dif_pos (by omega)).trans (Eq.trans ?_ (dif_pos h3).symm)
        exact congrArg (fun n => p (ix2 i0 n)) (Fin.ext (by dsimp only; omega))
      · refine (dif_neg (by omega)).trans (Eq.trans ?_ (dif_neg h3).symm)
        exact congrArg (fun n => p (ix2 i0 n)) (Fin.ext (by dsimp only; omega))

/-- The key means of the projected rows `p` with the angles `t`. -/
theorem means_of (i0 : Fin 32) (i1 : Fin 2) (i2 : Fin 1024) : (Host.divf (Host.reduceAdd (shapeCast _ (concatenate S16384x8x128 2 [⟨S16384x8x32, (concatenate S16384x8x32 2 [⟨S16384x8x16, (subf (mulf (extractStridedSlice S16384x8x16 ![0, 0, 0] (shapeCast _ (extractStridedSlice S16384x1024 ![0, 1024] p slices_S16384x9232_S16384x1024_0_1024) shapeCasts_S16384x1024_S16384x8x128) slices_S16384x8x128_S16384x8x16_0_0_0) (broadcastInDim S16384x8x16 ![0, 1, 2] bcast_S16384x1x16_S16384x8x16_0_1_2 (broadcastInDim S16384x1x16 ![0, 2] bcast_S16384x16_S16384x1x16_0_2 (extractStridedSlice S16384x16 ![0, 0] t slices_S16384x128_S16384x16_0_0)))) (mulf (extractStridedSlice S16384x8x16 ![0, 0, 16] (shapeCast _ (extractStridedSlice S16384x1024 ![0, 1024] p slices_S16384x9232_S16384x1024_0_1024) shapeCasts_S16384x1024_S16384x8x128) slices_S16384x8x128_S16384x8x16_0_0_16) (broadcastInDim S16384x8x16 ![0, 1, 2] bcast_S16384x1x16_S16384x8x16_0_1_2 (broadcastInDim S16384x1x16 ![0, 2] bcast_S16384x16_S16384x1x16_0_2 (extractStridedSlice S16384x16 ![0, 16] t slices_S16384x128_S16384x16_0_16)))))⟩, ⟨S16384x8x16, (addf (mulf (extractStridedSlice S16384x8x16 ![0, 0, 16] (shapeCast _ (extractStridedSlice S16384x1024 ![0, 1024] p slices_S16384x9232_S16384x1024_0_1024) shapeCasts_S16384x1024_S16384x8x128) slices_S16384x8x128_S16384x8x16_0_0_16) (broadcastInDim S16384x8x16 ![0, 1, 2] bcast_S16384x1x16_S16384x8x16_0_1_2 (broadcastInDim S16384x1x16 ![0, 2] bcast_S16384x16_S16384x1x16_0_2 (extractStridedSlice S16384x16 ![0, 0] t slices_S16384x128_S16384x16_0_0)))) (mulf (extractStridedSlice S16384x8x16 ![0, 0, 0] (shapeCast _ (extractStridedSlice S16384x1024 ![0, 1024] p slices_S16384x9232_S16384x1024_0_1024) shapeCasts_S16384x1024_S16384x8x128) slices_S16384x8x128_S16384x8x16_0_0_0) (broadcastInDim S16384x8x16 ![0, 1, 2] bcast_S16384x1x16_S16384x8x16_0_1_2 (broadcastInDim S16384x1x16 ![0, 2] bcast_S16384x16_S16384x1x16_0_2 (extractStridedSlice S16384x16 ![0, 16] t slices_S16384x128_S16384x16_0_16)))))⟩] concatenates_S16384x8x16_S16384x8x16_S16384x8x32_d2)⟩, ⟨S16384x8x96, (extractStridedSlice S16384x8x96 ![0, 0, 32] (shapeCast _ (extractStridedSlice S16384x1024 ![0, 1024] p slices_S16384x9232_S16384x1024_0_1024) shapeCasts_S16384x1024_S16384x8x128) slices_S16384x8x128_S16384x8x96_0_0_32)⟩] concatenates_S16384x8x32_S16384x8x96_S16384x8x128_d2) shapeCasts_S16384x8x128_S32x2x256x1024) (constant S_ .f32 0x00000000#32) reducesTo_S32x2x256x1024_S32x2x1024_d2 h_S_) (broadcastInDim S32x2x1024 ![] bcast_S_S32x2x1024 (constant S_ .f32 0x43800000#32)) : FVec Ideal S32x2x1024 .f32) (ix3 i0 i1 i2)
    = Ideal.div (∑ x : Fin 256,
        turn (fun l => p (ix2 ⟨i0 * 512 + i1 * 256 + x, by omega⟩ ⟨1024 + (i2 / 128 * 128 + l), by omega⟩))
          (row t ⟨i0 * 512 + i1 * 256 + x, by omega⟩) ⟨i2 % 128, by omega⟩) block := by
  pointwise []
  refine congrArg (Ideal.div · block) (Finset.sum_congr rfl fun x _ => ?_)
  have hl : (i2 : ℕ) % 128 < 128 := by omega
  refine turn_groups (fun l => p (ix2 ⟨i0 * 512 + i1 * 256 + x, by omega⟩ ⟨1024 + (i2 / 128 * 128 + l), by omega⟩))
    (row t ⟨i0 * 512 + i1 * 256 + x, by omega⟩) hl
    (z := p (ix2 ⟨i0 * 512 + i1 * 256 + x, by omega⟩ ⟨1024 + i2, by omega⟩)) ?_
  exact congrArg (fun n => p (ix2 _ n)) (Fin.ext (by dsimp only; omega))

/-- The small lanes of the projected rows `p`. -/
theorem small_of (i0 : Fin 16384) (i1 : Fin 128) : (pad S16384x128 ![0, 0] ![0, 112] ![0, 0] (extractStridedSlice S16384x16 ![0, 7168] p slices_S16384x9232_S16384x16_0_7168) (sitofp .f32 (constantI S_ 32 0#32)) pads_S16384x16_S16384x128_000_01120 h_S_ : FVec Ideal S16384x128 .f32) (ix2 i0 i1)
    = if h : (i1 : ℕ) < 16 then p (ix2 i0 ⟨7168 + i1, by omega⟩) else 0 := by
  pointwise []
  by_cases h : (i1 : ℕ) < 16
  · refine (dif_pos h).trans (Eq.trans ?_ (dif_pos h).symm)
    rfl
  · refine (dif_neg h).trans (Eq.trans ?_ (dif_neg h).symm)
    exact sitofp_zero

/-- The values of the projected rows `p`. -/
theorem values_of (i0 : Fin 8) (i1 : Fin 64) (i2 : Fin 144) (i3 : Fin 256) :
    (truncf .bf16 (concatenate S8x64x144x256 2 [⟨S8x64x128x256, (transpose S8x64x128x256 [2, 0, 3, 1] (shapeCast _ (extractStridedSlice S16384x1024 ![0, 2048] p slices_S16384x9232_S16384x1024_0_2048) shapeCasts_S16384x1024_S64x256x8x128) transposes_S64x256x8x128_S8x64x128x256_2_0_3_1)⟩, ⟨S8x64x16x256, (broadcastInDim S8x64x16x256 ![] bcast_S_S8x64x16x256 (constant S_ .f32 0x3F800000#32))⟩] concatenates_S8x64x128x256_S8x64x16x256_S8x64x144x256_d2) bitsLt_bf16_f32 : FVec Ideal S8x64x144x256 .bf16) (ix4 i0 i1 i2 i3)
    = if h : (i2 : ℕ) < 128 then p (ix2 ⟨i1 * 256 + i3, by omega⟩ ⟨2048 + (i0 * 128 + i2), by omega⟩) else 1 := by
  pointwise []

end Terms

variable (p : FVec Ideal S16384x9232 .f32)
  (hp : ∀ (r : Fin 16384) (n : Fin 9232), p (ix2 r n) = lane (row (a0 m c) r) (row (a1 m c) 0) (mat (a2 m c)) n)

include hp in
/-- A query head of the projected rows. -/
theorem head_query (r : Fin 16384) (h l : ℕ) (hh : h < 8) (hl : l < 128) :
    turn (fun l => p (ix2 r ⟨h * 128 + l, by omega⟩)) (row (a3 m c) r) ⟨l, hl⟩ * scale
      = query (row (a0 m c) r) (row (a1 m c) 0) (mat (a2 m c)) (row (a3 m c) r) ⟨h, hh⟩ ⟨l, hl⟩ := by
  unfold query
  refine congrArg (fun z => turn z (row (a3 m c) r) ⟨l, hl⟩ * scale) (funext fun l => (hp _ _).trans ?_)
  exact congrArg (lane _ _ _) (Fin.ext (by dsimp only; omega))

include hp in
/-- A key head of the projected rows. -/
theorem head_key (r : Fin 16384) (h l : ℕ) (hh : h < 8) (hl : l < 128) :
    turn (fun l => p (ix2 r ⟨1024 + (h * 128 + l), by omega⟩)) (row (a3 m c) r) ⟨l, hl⟩
      = key (row (a0 m c) r) (row (a1 m c) 0) (mat (a2 m c)) (row (a3 m c) r) ⟨h, hh⟩ ⟨l, hl⟩ := by
  unfold key
  refine congrArg (fun z => turn z (row (a3 m c) r) ⟨l, hl⟩) (funext fun l => (hp _ _).trans ?_)
  exact congrArg (lane _ _ _) (Fin.ext (by dsimp only; omega))

/-- The queries. -/
theorem queries_eq : res_main_v69 m c = queryOf (a0 m c) (a1 m c) (a2 m c) (a3 m c) := by
  funext i
  idx_vars i
  exact (queries_of (prod m c) (a3 m c) i0 i1 i2).trans (head_query m c _ (prod_eq m c) i1 i0 i2 i0.isLt i2.isLt)

/-- The wide lanes. -/
theorem wide_eq : res_main_v70 m c = wideOf (a0 m c) (a1 m c) (a2 m c) (a3 m c) := by
  funext i
  idx_vars i
  refine (wide_of (prod m c) (a3 m c) i0 i1).trans ?_
  unfold wideOf wide
  refine dite_congr rfl (fun (h : (i1 : ℕ) < 1024) => ?_) fun h => dite_congr rfl (fun (h : (i1 : ℕ) < 2048) => ?_)
    fun h => dite_congr rfl (fun h => ?_) fun h => ?_
  · exact head_query m c _ (prod_eq m c) i0 (i1 / 128) (i1 % 128) (by omega) (by omega)
  · exact head_key m c _ (prod_eq m c) i0 ((i1 - 1024) / 128) ((i1 - 1024) % 128) (by omega) (by omega)
  · exact prod_eq m c _ _
  · exact prod_eq m c _ _

/-- The key means. -/
theorem means_eq : res_main_v65 m c = meanOf (a0 m c) (a1 m c) (a2 m c) (a3 m c) := by
  funext i
  idx_vars i
  refine (means_of (prod m c) (a3 m c) i0 i1 i2).trans ?_
  show _ = mean (row (a1 m c) 0) (mat (a2 m c)) (fun r => row (a0 m c) ⟨512 * i0 + 256 * i1 + r, by omega⟩)
    (fun r => row (a3 m c) ⟨512 * i0 + 256 * i1 + r, by omega⟩) ⟨i2 / 128, by omega⟩ ⟨i2 % 128, by omega⟩
  unfold mean
  refine congrArg (Ideal.div · block) (Finset.sum_congr rfl fun x _ => ?_)
  refine (head_key m c _ (prod_eq m c) ⟨i0 * 512 + i1 * 256 + x, by omega⟩ (i2 / 128) (i2 % 128) (by omega) (by omega)).trans ?_
  exact congrArg (fun r => key (row (a0 m c) r) (row (a1 m c) 0) (mat (a2 m c)) (row (a3 m c) r) _ _)
    (Fin.ext (by dsimp only; omega))

/-- The same lane of the same row. -/
theorem lane_congr {r r' : Fin 16384} {n n' : Fin 9232} (h : r = r') (e : n = n') :
    lane (row (a0 m c) r) (row (a1 m c) 0) (mat (a2 m c)) n = lane (row (a0 m c) r') (row (a1 m c) 0) (mat (a2 m c)) n' := by
  cases h; cases e; rfl

/-- The small lanes. -/
theorem small_eq : pad S16384x128 ![0, 0] ![0, 112] ![0, 0] (extractStridedSlice S16384x16 ![0, 7168] (Host.dotGeneral (F := Ideal) (φ₁ := .f32) (φ₂ := .f32) dot_S16384x1024_S1024x9232_S16384x9232_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (m ((c.tc : Thread nD τ).loc main_arg2))) slices_S16384x9232_S16384x16_0_7168) (sitofp .f32 (constantI S_ 32 0#32)) pads_S16384x16_S16384x128_000_01120 h_S_ = narrowOf (a0 m c) (a1 m c) (a2 m c) := by
  funext i
  idx_vars i
  refine (small_of (prod m c) i0 i1).trans ?_
  unfold narrowOf narrow
  exact dite_congr rfl (fun h => prod_eq m c _ _) fun h => rfl

/-- The values. -/
theorem values_eq : truncf .bf16 (concatenate S8x64x144x256 2 [⟨S8x64x128x256, (transpose S8x64x128x256 [2, 0, 3, 1] (shapeCast _ (extractStridedSlice S16384x1024 ![0, 2048] (Host.dotGeneral (F := Ideal) (φ₁ := .f32) (φ₂ := .f32) dot_S16384x1024_S1024x9232_S16384x9232_1_0_0_1_n_n none (mulf (mulf (m ((c.tc : Thread nD τ).loc main_arg0)) (broadcastInDim S16384x1024 ![0, 1] bcast_S16384x1_S16384x1024_0_1 (Host.rsqrt (addf (Host.divf (broadcastInDim S16384x1 ![0] bcast_S16384_S16384x1_0 (Host.reduceAdd (mulf (m ((c.tc : Thread nD τ).loc main_arg0)) (m ((c.tc : Thread nD τ).loc main_arg0))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (m ((c.tc : Thread nD τ).loc main_arg1)))) (m ((c.tc : Thread nD τ).loc main_arg2))) slices_S16384x9232_S16384x1024_0_2048) shapeCasts_S16384x1024_S64x256x8x128) transposes_S64x256x8x128_S8x64x128x256_2_0_3_1)⟩, ⟨S8x64x16x256, (broadcastInDim S8x64x16x256 ![] bcast_S_S8x64x16x256 (constant S_ .f32 0x3F800000#32))⟩] concatenates_S8x64x128x256_S8x64x16x256_S8x64x144x256_d2) bitsLt_bf16_f32 = turnedOf (a0 m c) (a1 m c) (a2 m c) := by
  funext i
  idx_vars i
  refine (values_of (prod m c) i0 i1 i2 i3).trans ?_
  show _ = turned (row (a0 m c) ⟨256 * i1 + i3, by omega⟩) (row (a1 m c) 0) (mat (a2 m c)) i0 i2
  unfold turned val
  refine dite_congr rfl (fun h => (prod_eq m c _ _).trans (lane_congr m c ?_ ?_)) fun h => rfl
  · exact Fin.ext (by dsimp only; omega)
  · exact Fin.ext (by dsimp only; omega)

/-- The reference's run: its five results are the model's on the arguments, which it leaves alone. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = wideOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v61) = narrowOf (m ((c.tc : Thread nD τ).loc main_arg0)) (m ((c.tc : Thread nD τ).loc main_arg1)) (m ((c.tc : Thread nD τ).loc main_arg2))
      ∧ r.2.mem ((c.tc : Thread nD τ).loc main_v65) = meanOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v71) = turnedOf (m ((c.tc : Thread nD τ).loc main_arg0)) (m ((c.tc : Thread nD τ).loc main_arg1)) (m ((c.tc : Thread nD τ).loc main_arg2))
      ∧ r.2.mem ((c.tc : Thread nD τ).loc main_v69) = queryOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (wide_eq m c), (h c).2.1.trans (small_eq m c),
    (h c).2.2.1.trans (means_eq m c), (h c).2.2.2.1.trans (values_eq m c), (h c).2.2.2.2.1.trans (queries_eq m c),
    (h c).2.2.2.2.2⟩) (Cert.Reference2Ideal.Value.run m ρ)

end Cert.Reference2Ideal.Proj
-- ==== Proof.MergeModel.lean ====
module

public import Idealize.ShloMosaic.Lib.Pipeline.ValueKit
public import Idealize.ShloMosaic.Lib.Affine

/-! # One output element of the attention merge, and why shifting the exponents does not change it

A query attends to the keys of its own block and to three partial results computed elsewhere, each with the base-two
logarithm of its weight. `plain` is the softmax as written; `shifted` subtracts the greatest score from the own block's
exponents, turns the own block's weight into a logarithm, and subtracts the greatest logarithm from all four. -/

@[expose] public section

noncomputable section

namespace Cert.Merge

open Idealize.ShloMosaic

/-- A small number read back from its word. -/
theorem toInt_small {n : ℕ} (h : n < 65536) : (BitVec.ofNat 32 n).toInt = n := by
  rw [BitVec.toInt_ofNat', Int.bmod_eq_of_le] <;> omega

theorem le_word {a b : ℕ} (ha : a < 65536) (hb : b < 65536) : IntOp.cmpi .sle (BitVec.ofNat 32 a) (BitVec.ofNat 32 b) = 1 ↔ a ≤ b := by
  refine (IntOp.cmpi_sle (x := BitVec.ofNat 32 a) (y := BitVec.ofNat 32 b)).trans ?_
  rw [toInt_small ha, toInt_small hb]; omega

theorem gt_word {a b : ℕ} (ha : a < 65536) (hb : b < 65536) : Scalar.cmpi .sgt (BitVec.ofNat 32 a) (BitVec.ofNat 32 b) = 1 ↔ b < a := by
  refine (IntOp.cmpi_sgt (x := BitVec.ofNat 32 a) (y := BitVec.ofNat 32 b)).trans ?_
  rw [toInt_small ha, toInt_small hb]; omega

/-- Two to a power. -/
abbrev two (x : EReal) : EReal := Ideal.exp2 x

/-- The scores of the keys up to position `r`, the rest taken out. -/
def upTo (r : Fin 256) (s : Fin 256 → EReal) (c : Fin 256) : EReal := if (c : ℕ) ≤ r then s c else ⊥

/-- The softmax over the own block and the partial results in use, as written. -/
def plain (s v : Fin 256 → EReal) (r : Fin 256) (use : Fin 3 → Prop) [∀ p, Decidable (use p)] (o l : Fin 3 → EReal) : EReal :=
  Ideal.div
    ((∑ c : Fin 256, (if (c : ℕ) ≤ r then two (s c) else 0) * v c)
      + ∑ p : Fin 3, (if use p then two (l p) else 0) * (if use p then o p else 0))
    ((∑ c : Fin 256, if (c : ℕ) ≤ r then two (s c) else 0) + ∑ p : Fin 3, if use p then two (l p) else 0)

/-- The greatest of the scores up to position `r`. -/
def most (s : Fin 256 → EReal) (r : Fin 256) : EReal := Finset.fold max ⊥ (upTo r s) Finset.univ

/-- The values weighted by the shifted exponentials. -/
def near (s v : Fin 256 → EReal) (r : Fin 256) : EReal := ∑ c : Fin 256, two (upTo r s c - most s r) * v c

/-- The sum of the shifted exponentials. -/
def mass (s : Fin 256 → EReal) (r : Fin 256) : EReal := ∑ c : Fin 256, two (upTo r s c - most s r)

/-- The base-two logarithm of the sum of the exponentials. -/
def ownLog (s : Fin 256 → EReal) (r : Fin 256) : EReal := most s r + Ideal.log (mass s r) * (((Real.log 2)⁻¹ : ℝ) : EReal)

/-- Four weighted results put together, their logarithms shifted by the greatest. -/
def join (a b e p0 p1 p2 e0 e1 e2 : EReal) : EReal :=
  Ideal.div
    (((Ideal.div (two (e - max (max (max e e0) e1) e2)) b * a + two (e0 - max (max (max e e0) e1) e2) * p0)
      + two (e1 - max (max (max e e0) e1) e2) * p1) + two (e2 - max (max (max e e0) e1) e2) * p2)
    (((two (e - max (max (max e e0) e1) e2) + two (e0 - max (max (max e e0) e1) e2))
      + two (e1 - max (max (max e e0) e1) e2)) + two (e2 - max (max (max e e0) e1) e2))

/-- The same softmax with every exponent shifted. -/
def shifted (s v : Fin 256 → EReal) (r : Fin 256) (use : Fin 3 → Prop) [∀ p, Decidable (use p)] (o l : Fin 3 → EReal) : EReal :=
  join (near s v r) (mass s r) (ownLog s r)
    (if use 0 then o 0 else 0) (if use 1 then o 1 else 0) (if use 2 then o 2 else 0)
    (if use 0 then l 0 else ⊥) (if use 1 then l 1 else ⊥) (if use 2 then l 2 else ⊥)

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem two_real (x : ℝ) : two (x : EReal) = (((2 : ℝ) ^ x : ℝ) : EReal) := rfl

/-- Two to the power that the natural exponential spells with the logarithm of two. -/
theorem two_of_exp (x : EReal) : Ideal.exp (x * ((Real.log 2 : ℝ) : EReal)) = two x := by
  have hpos : (0 : ℝ) < Real.log 2 := Real.log_pos (by norm_num)
  induction x using EReal.rec with
  | bot => rw [EReal.bot_mul_coe_of_pos hpos]; rfl
  | top => rw [EReal.top_mul_coe_of_pos hpos]; rfl
  | coe x => rw [← EReal.coe_mul, Ideal.exp_coe, two_real, Real.rpow_def_of_pos (by norm_num), mul_comm]

theorem two_sub (x : ℝ) {P : Prop} [Decidable P] (y : ℝ) :
    two ((if P then (x : EReal) else ⊥) - (y : EReal)) = ((if P then (2 : ℝ) ^ x / 2 ^ y else 0 : ℝ) : EReal) := by
  split
  · rw [← EReal.coe_sub, two_real, Real.rpow_sub (by norm_num)]
  · rw [EReal.bot_sub]; rfl

/-- The greatest of real scores is real. -/
theorem most_real (s : Fin 256 → ℝ) (r : Fin 256) : ∃ m : ℝ, most (fun c => (s c : EReal)) r = m := by
  have hlo : (s r : EReal) ≤ most (fun c => (s c : EReal)) r :=
    (Finset.le_fold_max _).mpr (.inr ⟨r, Finset.mem_univ _, by simp [upTo]⟩)
  have hhi : most (fun c => (s c : EReal)) r < ⊤ :=
    (Finset.fold_max_lt _).mpr ⟨bot_lt_top, fun c _ => by unfold upTo; split <;> simp [EReal.coe_lt_top]⟩
  exact ⟨_, (EReal.coe_toReal hhi.ne (fun h => by rw [h] at hlo; exact absurd hlo (by simp))).symm⟩

theorem top_real (e : ℝ) (f0 f1 f2 : EReal) (h0 : f0 < ⊤) (h1 : f1 < ⊤) (h2 : f2 < ⊤) :
    ∃ t : ℝ, max (max (max (e : EReal) f0) f1) f2 = t := by
  have hlo : (e : EReal) ≤ max (max (max (e : EReal) f0) f1) f2 := by simp
  have hhi : max (max (max (e : EReal) f0) f1) f2 < ⊤ := by simp [h0, h1, h2, EReal.coe_lt_top]
  exact ⟨_, (EReal.coe_toReal hhi.ne (fun h => by rw [h] at hlo; exact absurd hlo (by simp))).symm⟩

/-- A number of at least zero goes into a sum of two. -/
theorem mul_add_real {k : ℝ} (hk : 0 ≤ k) (x y : EReal) : (k : EReal) * (x + y) = (k : EReal) * x + (k : EReal) * y :=
  EReal.left_distrib_of_nonneg_of_ne_top (EReal.coe_nonneg.mpr hk) (EReal.coe_ne_top k) x y

/-- A number of at least zero goes into a sum. -/
theorem mul_sum_real {ι : Type} (t : Finset ι) {k : ℝ} (hk : 0 ≤ k) (f : ι → EReal) : (k : EReal) * ∑ i ∈ t, f i = ∑ i ∈ t, (k : EReal) * f i := by
  classical
  induction t using Finset.induction_on with
  | empty => simp
  | insert a t ha ih => rw [Finset.sum_insert ha, Finset.sum_insert ha, mul_add_real hk, ih]

/-- Below infinity, a power of two is real, and a shift of the exponent divides it. -/
theorem two_below (g : EReal) (h : g < ⊤) : ∃ w : ℝ, 0 ≤ w ∧ two g = (w : EReal) ∧ ∀ t : ℝ, two (g - (t : EReal)) = ((w / 2 ^ t : ℝ) : EReal) := by
  induction g using EReal.rec with
  | bot => exact ⟨0, le_rfl, rfl, fun t => by rw [EReal.bot_sub, zero_div]; rfl⟩
  | top => exact absurd h (by simp)
  | coe x =>
    exact ⟨2 ^ x, (Real.rpow_pos_of_pos (by norm_num) _).le, rfl, fun t => by rw [← EReal.coe_sub, two_real, Real.rpow_sub (by norm_num)]⟩

/-- Numerator and denominator divided by one positive number. -/
theorem div_same (x : EReal) {k d : ℝ} (hk : 0 < k) (hd : 0 < d) :
    Ideal.div ((k : EReal) * x) ((k * d : ℝ) : EReal) = Ideal.div x (d : EReal) := by
  rw [Ideal.div_coe (mul_pos hk hd).ne', Ideal.div_coe hd.ne', mul_comm (k : EReal) x, mul_assoc, ← EReal.coe_mul]
  congr 2
  field_simp

/-- On real scores and logarithms below infinity the shifted form is the plain softmax, whatever the values and the partial
    results. -/
theorem shifted_eq_plain (s : Fin 256 → ℝ) (v : Fin 256 → EReal) (r : Fin 256) (use : Fin 3 → Prop) [∀ p, Decidable (use p)] (o l : Fin 3 → EReal)
    (hl : ∀ p, use p → l p < ⊤) :
    shifted (fun c => (s c : EReal)) v r use o l = plain (fun c => (s c : EReal)) v r use o l := by
  have hlt : ∀ p, (if use p then l p else ⊥) < ⊤ := fun p => by
    split
    · exact hl p ‹_›
    · exact bot_lt_top
  choose w hw0 hw1 hw2 using fun p => two_below (if use p then l p else ⊥) (hlt p)
  have hl3 : ∀ p, (if use p then two (l p) else 0) = (w p : EReal) := fun p => by
    rw [← hw1 p]
    split <;> rfl
  have hM0 : ∀ x : ℝ, (0 : ℝ) < 2 ^ x := fun x => Real.rpow_pos_of_pos (by norm_num) _
  set W : Fin 256 → ℝ := fun c => if (c : ℕ) ≤ r then (2 : ℝ) ^ s c else 0 with hW
  have hW0 : ∀ c, 0 ≤ W c := fun c => by
    dsimp only [W]
    split
    · exact (hM0 _).le
    · exact le_rfl
  have hs3 : ∀ c : Fin 256, (if (c : ℕ) ≤ r then two (s c : EReal) else 0) = (W c : EReal) := fun c => by
    dsimp only [W]
    split <;> rfl
  obtain ⟨m, hm⟩ := most_real s r
  have hw : ∀ c : Fin 256, two (upTo r (fun c => (s c : EReal)) c - most (fun c => (s c : EReal)) r) = ((W c / 2 ^ m : ℝ) : EReal) := fun c => by
    rw [hm]
    refine (two_sub _ _).trans (congrArg _ ?_)
    dsimp only [W]
    split
    · rfl
    · rw [zero_div]
  have hA : near (fun c => (s c : EReal)) v r = ∑ c : Fin 256, ((W c / 2 ^ m : ℝ) : EReal) * v c :=
    Finset.sum_congr rfl fun c _ => by rw [hw]
  have hB : mass (fun c => (s c : EReal)) r = (((∑ c : Fin 256, W c) / 2 ^ m : ℝ) : EReal) := by
    rw [Finset.sum_div, coe_sum]
    exact Finset.sum_congr rfl fun c _ => hw c
  have hM : (0 : ℝ) < 2 ^ m := hM0 m
  set b : ℝ := ∑ c : Fin 256, W c with hb
  have hbpos : 0 < b := by
    refine Finset.sum_pos' (fun c _ => hW0 c) ⟨r, Finset.mem_univ _, ?_⟩
    dsimp only [W]
    rw [if_pos le_rfl]; exact hM0 _
  have hBpos : 0 < b / 2 ^ m := div_pos hbpos hM
  have hE : ownLog (fun c => (s c : EReal)) r = ((m + Real.log (b / 2 ^ m) * (Real.log 2)⁻¹ : ℝ) : EReal) := by
    unfold ownLog
    rw [hm, hB, Ideal.log_coe, if_neg (not_le.mpr hBpos), ← EReal.coe_mul, ← EReal.coe_add]
  have hpow : (2 : ℝ) ^ (m + Real.log (b / 2 ^ m) * (Real.log 2)⁻¹) = b := by
    rw [Real.rpow_add (by norm_num), Real.rpow_def_of_pos (by norm_num : (0 : ℝ) < 2) (Real.log (b / 2 ^ m) * _),
      mul_comm (Real.log (b / 2 ^ m)), ← mul_assoc, mul_inv_cancel₀ (Real.log_pos (by norm_num)).ne', one_mul, Real.exp_log hBpos]
    field_simp
  obtain ⟨t, ht⟩ := top_real (m + Real.log (b / 2 ^ m) * (Real.log 2)⁻¹) _ _ _ (hlt 0) (hlt 1) (hlt 2)
  have hE2 : two (((m + Real.log (b / 2 ^ m) * (Real.log 2)⁻¹ : ℝ) : EReal) - (t : EReal)) = ((b / 2 ^ t : ℝ) : EReal) := by
    rw [← EReal.coe_sub, two_real, Real.rpow_sub (by norm_num), hpow]
  have hT : (0 : ℝ) < 2 ^ t := hM0 t
  set k : ℝ := 1 / 2 ^ t with hk
  have hk0 : 0 < k := one_div_pos.mpr hT
  have hpart : ∀ (p : Fin 3) (x : EReal), ((w p / 2 ^ t : ℝ) : EReal) * x = (k : EReal) * ((w p : EReal) * x) := fun p x => by
    rw [← mul_assoc, ← EReal.coe_mul]
    congr 2
    rw [hk]; ring
  have hown : Ideal.div ((b / 2 ^ t : ℝ) : EReal) ((b / 2 ^ m : ℝ) : EReal) * ∑ c : Fin 256, ((W c / 2 ^ m : ℝ) : EReal) * v c
      = (k : EReal) * ∑ c : Fin 256, (W c : EReal) * v c := by
    rw [Ideal.div_coe hBpos.ne', ← EReal.coe_mul, mul_sum_real _ (by positivity), mul_sum_real _ hk0.le]
    refine Finset.sum_congr rfl fun c _ => ?_
    rw [← mul_assoc, ← mul_assoc, ← EReal.coe_mul, ← EReal.coe_mul]
    congr 2
    rw [hk]; field_simp
  have hd : 0 < b + (w 0 + w 1 + w 2) := by have := hw0 0; have := hw0 1; have := hw0 2; positivity
  have hden : b / 2 ^ t + w 0 / 2 ^ t + w 1 / 2 ^ t + w 2 / 2 ^ t = k * (b + (w 0 + w 1 + w 2)) := by
    rw [hk]; ring
  unfold shifted plain join
  simp only [hl3, hs3, hA, hB, hE]
  rw [ht]
  simp only [hE2, hw2, hown, hpart, Fin.sum_univ_three, ← mul_add_real hk0.le, ← EReal.coe_add, ← coe_sum, ← hb]
  rw [hden, div_same _ hk0 hd, add_assoc, add_assoc]
  simp only [add_assoc]

/-- One element of the merge from the rows it reads: the query, the keys and values of its own block, the partial results. -/
def element (Q : Fin 128 → EReal) (K : Fin 256 → Fin 128 → EReal) (v : Fin 256 → EReal) (r : Fin 256) (n : ℕ) (o l : Fin 3 → EReal) : EReal :=
  shifted (fun c => ∑ t : Fin 128, Q t * K c t) v r (fun p => (p : ℕ) < n) o l

theorem element_congr {Q Q' : Fin 128 → EReal} {K K' : Fin 256 → Fin 128 → EReal} {v v' : Fin 256 → EReal} {r r' : Fin 256} {n n' : ℕ}
    {o o' l l' : Fin 3 → EReal} (h1 : ∀ t, Q t = Q' t) (h2 : ∀ c t, K c t = K' c t) (h3 : ∀ c, v c = v' c) (h4 : r = r') (h5 : n = n')
    (h6 : ∀ p, o p = o' p) (h7 : ∀ p, l p = l' p) : element Q K v r n o l = element Q' K' v' r' n' o' l' := by
  cases funext h1; cases funext fun c => funext (h2 c); cases funext h3; cases h4; cases h5; cases funext h6; cases funext h7; rfl

/-- The same element as the softmax is written. -/
def softened (Q : Fin 128 → EReal) (K : Fin 256 → Fin 128 → EReal) (v : Fin 256 → EReal) (r : Fin 256) (n : ℕ) (o l : Fin 3 → EReal) : EReal :=
  plain (fun c => ∑ t : Fin 128, Q t * K c t) v r (fun p => (p : ℕ) < n) o l

theorem element_eq {Q : Fin 128 → EReal} {K : Fin 256 → Fin 128 → EReal} {v : Fin 256 → EReal} {r : Fin 256} {n : ℕ} {o l : Fin 3 → EReal}
    (hQ : ∀ t, ∃ x : ℝ, Q t = x) (hK : ∀ c t, ∃ x : ℝ, K c t = x) (hl : ∀ p : Fin 3, (p : ℕ) < n → l p < ⊤) :
    element Q K v r n o l = softened Q K v r n o l := by
  choose Q' hQ' using hQ
  choose K' hK' using hK
  have hs : (fun c => ∑ t : Fin 128, Q t * K c t) = fun c => ((∑ t : Fin 128, Q' t * K' c t : ℝ) : EReal) := by
    funext c
    rw [coe_sum]
    exact Finset.sum_congr rfl fun t _ => by rw [hQ', hK', EReal.coe_mul]
  unfold element softened
  rw [hs]
  exact shifted_eq_plain _ _ _ _ _ _ hl

section Arrays

variable (P : (⟨2, ![16384, 9216]⟩ : Shape).Idx → EReal) (O L : (⟨4, ![3, 8, 16384, 128]⟩ : Shape).Idx → EReal)

/-- The merge with shifted exponents on the whole arrays. -/
def mergedOf : (⟨2, ![16384, 1024]⟩ : Shape).Idx → EReal := fun i =>
  let s : Fin 16384 := i 0
  let n : Fin 1024 := i 1
  element (fun t => P (ix2 s ⟨n / 128 * 128 + t, by omega⟩))
    (fun c t => P (ix2 ⟨s / 256 * 256 + c, by omega⟩ ⟨1024 + (n / 128 * 128 + t), by omega⟩))
    (fun c => P (ix2 ⟨s / 256 * 256 + c, by omega⟩ ⟨2048 + n, by omega⟩))
    ⟨s % 256, by omega⟩ (s / 256)
    (fun p => O (ix4 p ⟨n / 128, by omega⟩ s ⟨n % 128, by omega⟩))
    (fun p => L (ix4 p ⟨n / 128, by omega⟩ s ⟨n % 128, by omega⟩))

/-- The merge as the softmax is written, on the whole arrays. -/
def softenedOf : (⟨2, ![16384, 1024]⟩ : Shape).Idx → EReal := fun i =>
  let s : Fin 16384 := i 0
  let n : Fin 1024 := i 1
  softened (fun t => P (ix2 s ⟨n / 128 * 128 + t, by omega⟩))
    (fun c t => P (ix2 ⟨s / 256 * 256 + c, by omega⟩ ⟨1024 + (n / 128 * 128 + t), by omega⟩))
    (fun c => P (ix2 ⟨s / 256 * 256 + c, by omega⟩ ⟨2048 + n, by omega⟩))
    ⟨s % 256, by omega⟩ (s / 256)
    (fun p => O (ix4 p ⟨n / 128, by omega⟩ s ⟨n % 128, by omega⟩))
    (fun p => L (ix4 p ⟨n / 128, by omega⟩ s ⟨n % 128, by omega⟩))

/-- On finite queries and keys, and logarithms below infinity where they are used, the two are one array. -/
theorem mergedOf_eq (hP : ∀ (s : Fin 16384) (n : Fin 9216), (n : ℕ) < 2048 → ∃ x : ℝ, P (ix2 s n) = x)
    (hL : ∀ (p : Fin 3) (h : Fin 8) (s : Fin 16384) (d : Fin 128), (p : ℕ) < s / 256 → L (ix4 p h s d) < ⊤) :
    mergedOf P O L = softenedOf P O L := by
  funext i
  have hn : (i 1 : ℕ) < 1024 := (i 1).isLt
  unfold mergedOf softenedOf
  dsimp only
  exact element_eq (fun t => hP _ _ (by dsimp only; omega)) (fun c t => hP _ _ (by dsimp only; omega)) (fun p h => hL _ _ _ _ h)

end Arrays

end Cert.Merge

end
-- ==== Proof.MergeHead.lean ====
module

public import proofs.«01_k».proof.Proof.Gen.Kernel3Ideal.Value
public import Idealize.ShloMosaic.Lib.Pipeline.ValueKit
public import proofs.«01_k».proof.Proof.MergeModel

/-! # One head's rows of the attention merge, as vectors and lane by lane -/

@[expose] public section

set_option maxRecDepth 16384

noncomputable section

namespace Cert.Kernel3Ideal.Merge

open Cert.Kernel3Ideal Cert.Kernel3Ideal.Gen Idealize.ShloMosaic Idealize.SL.Sem
open Idealize.ShloMosaic.TcCoe
open Cert.Merge (le_word gt_word two upTo most near mass join shifted plain)

/-- The scores of 256 queries with the 256 keys of their own block, the keys to come left out. -/
def masked (q k : Vec Ideal S256x128 .bf16) : FVec Ideal S256x256 .f32 :=
  select (cmpi .sle (iota .tc S256x256 32 [1] iota_S256x256_d1_w32) (iota .tc S256x256 32 [0] iota_S256x256_d0_w32))
    (matmul dot_S256x128_S256x128_S256x256_1_1_0_0_n_n none (φ₁ := .bf16) (φ₂ := .bf16) q k (constant S256x256 .f32 0x00000000#32))
    (broadcast S256x256 (Scalar.ofBits .f32 0xFF800000#32))

/-- The greatest score of each query, in every lane. -/
def greatest (q k : Vec Ideal S256x128 .bf16) : FVec Ideal S256x128 .f32 :=
  broadcastTo S256x128 (shapeCast S256x1 (shapeCast S256x1
    (multiReduction .maximumf [1] S256 (masked q k) 0xFF800000#32 reduces_S256x256_S256 (.inl rfl) rfl)
    shapeCasts_S256_S256x1) shapeCasts_S256x1_S256x1) broadcasts_S256x1_S256x128

/-- The weighted values, and in the lanes after them the sum of the weights. -/
def sums (q k v : Vec Ideal S256x128 .bf16) : FVec Ideal S256x256 .f32 :=
  matmul dot_S256x256_S256x256_S256x256_1_0_0_1_n_n none
    (truncf .bf16 (exp2 (subf (masked q k) (concatenate S256x256 1 [⟨S256x128, greatest q k⟩, ⟨S256x128, greatest q k⟩]
      concatenates_S256x128_S256x128_S256x256_d1))) bitsLt_bf16_f32)
    (concatenate S256x256 1 [⟨S256x128, v⟩, ⟨S256x128, broadcast S256x128 (Scalar.ofBits .bf16 0x3F80#16)⟩]
      concatenates_S256x128_S256x128_S256x256_d1)
    (constant S256x256 .f32 0x00000000#32)

/-- The weighted values alone. -/
def values (q k v : Vec Ideal S256x128 .bf16) : FVec Ideal S256x128 .f32 :=
  extractStridedSlice S256x128 ![0, 0] (sums q k v) slices_S256x256_o0_0_S256x128

/-- The sum of the weights alone. -/
def weight (q k v : Vec Ideal S256x128 .bf16) : FVec Ideal S256x128 .f32 :=
  extractStridedSlice S256x128 ![0, 128] (sums q k v) slices_S256x256_o0_128_S256x128

/-- The logarithm, to base two, of the unshifted sum of the weights. -/
def ownLog (q k v : Vec Ideal S256x128 .bf16) : FVec Ideal S256x128 .f32 :=
  addf (greatest q k) (mulf (log (weight q k v)) (broadcast S256x128 (Named.named κ "log2_e" 0x3FB8AA3B#32)))

/-- One partial result where it is valid. -/
def part (j n : BitVec 32) (o : Vec Ideal S1x1x256x128 .bf16) : FVec Ideal S256x128 .f32 :=
  Scalar.select (Scalar.cmpi .sgt j n) (extf .f32 (shapeCast S256x128 o shapeCasts_S1x1x256x128_S256x128 : FVec Ideal S256x128 .bf16) bitsLt_bf16_f32)
    (broadcast S256x128 (Scalar.ofBits .f32 0x00000000#32))

/-- Its logarithm where it is valid. -/
def partLog (j n : BitVec 32) (l : Vec Ideal S1x1x256x128 .f32) : FVec Ideal S256x128 .f32 :=
  Scalar.select (Scalar.cmpi .sgt j n) (shapeCast S256x128 l shapeCasts_S1x1x256x128_S256x128)
    (broadcast S256x128 (Scalar.ofBits .f32 0xFF800000#32))

/-- Three partial results merged with the own block's: `a` and `b` its values and weight, `e` its logarithm. -/
def merged (a b e p0 p1 p2 e0 e1 e2 : FVec Ideal S256x128 .f32) : FVec Ideal S256x128 .bf16 :=
  let top := maximumf (maximumf (maximumf e e0) e1) e2
  let w := exp2 (subf e top)
  let w0 := exp2 (subf e0 top)
  let w1 := exp2 (subf e1 top)
  let w2 := exp2 (subf e2 top)
  truncf .bf16 (divf (addf (addf (addf (mulf (divf w b) a) (mulf w0 p0)) (mulf w1 p1)) (mulf w2 p2))
    (addf (addf (addf w w0) w1) w2)) bitsLt_bf16_f32

/-- One head's rows. -/
def head (j : BitVec 32) (q k v : Vec Ideal S256x128 .bf16) (o0 o1 o2 : Vec Ideal S1x1x256x128 .bf16)
    (l0 l1 l2 : Vec Ideal S1x1x256x128 .f32) : FVec Ideal S256x128 .bf16 :=
  merged (values q k v) (weight q k v) (ownLog q k v) (part j 0#32 o0) (part j 1#32 o1) (part j 2#32 o2)
    (partLog j 0#32 l0) (partLog j 1#32 l1) (partLog j 2#32 l2)

theorem ofBits_neg_inf : Ideal.ofBits .f32 0xFF800000#32 = ⊥ := by simp [Ideal.ofBits, Ideal.ieee]

/-- The score of query `r` with key `c`. -/
abbrev score (q k : Vec Ideal S256x128 .bf16) (r c : Fin 256) : EReal := ∑ t : Fin 128, q (ix2 r t) * k (ix2 c t)

theorem masked_at (q k : Vec Ideal S256x128 .bf16) (r c : Fin 256) : masked q k (ix2 r c) = upTo r (score q k r) c := by
  pointwise [masked]
  rw [ofBits_neg_inf]
  unfold Scalar.select upTo
  exact if_congr (le_word (by omega) (by omega)) rfl rfl

theorem greatest_at (q k : Vec Ideal S256x128 .bf16) (r : Fin 256) (d : Fin 128) : greatest q k (ix2 r d) = most (score q k r) r := by
  pointwise [greatest]
  rw [ofBits_neg_inf]
  unfold most
  exact congrArg (fun f => Finset.fold max ⊥ f Finset.univ) (funext fun x => masked_at q k r x)

theorem halves (f : Fin 256 → EReal) : (∑ x : Fin 128, f ⟨x, by omega⟩) + ∑ x : Fin 128, f ⟨128 + x, by omega⟩ = ∑ c : Fin 256, f c :=
  (Fin.sum_univ_add (a := 128) (b := 128) f).symm

theorem values_at (q k v : Vec Ideal S256x128 .bf16) (r : Fin 256) (d : Fin 128) :
    values q k v (ix2 r d) = near (score q k r) (fun c => v (ix2 c d)) r := by
  pointwise [values, sums]
  simp only [masked_at, greatest_at]
  exact halves fun c => two (upTo r (score q k r) c - most (score q k r) r) * v (ix2 c d)

theorem weight_at (q k v : Vec Ideal S256x128 .bf16) (r : Fin 256) (d : Fin 128) :
    weight q k v (ix2 r d) = mass (score q k r) r := by
  pointwise [weight, sums]
  simp only [masked_at, greatest_at]
  exact halves fun c => two (upTo r (score q k r) c - most (score q k r) r)

theorem ownLog_at (q k v : Vec Ideal S256x128 .bf16) (r : Fin 256) (d : Fin 128) :
    ownLog q k v (ix2 r d) = Cert.Merge.ownLog (score q k r) r := by
  pointwise [ownLog]
  rw [greatest_at, weight_at]
  rfl

theorem part_at {j n : ℕ} (hj : j < 65536) (hn : n < 65536) (o : Vec Ideal S1x1x256x128 .bf16) (r : Fin 256) (d : Fin 128) :
    part (BitVec.ofNat 32 j) (BitVec.ofNat 32 n) o (ix2 r d) = if n < j then o (ix4 0 0 r d) else 0 := by
  pointwise [part]
  unfold Scalar.select
  exact if_congr (gt_word hj hn) rfl rfl

theorem partLog_at {j n : ℕ} (hj : j < 65536) (hn : n < 65536) (l : Vec Ideal S1x1x256x128 .f32) (r : Fin 256) (d : Fin 128) :
    partLog (BitVec.ofNat 32 j) (BitVec.ofNat 32 n) l (ix2 r d) = if n < j then l (ix4 0 0 r d) else ⊥ := by
  pointwise [partLog]
  rw [ofBits_neg_inf]
  unfold Scalar.select
  exact if_congr (gt_word hj hn) rfl rfl

theorem merged_at (a b e p0 p1 p2 e0 e1 e2 : FVec Ideal S256x128 .f32) (r : Fin 256) (d : Fin 128) :
    merged a b e p0 p1 p2 e0 e1 e2 (ix2 r d) = join (a (ix2 r d)) (b (ix2 r d)) (e (ix2 r d)) (p0 (ix2 r d)) (p1 (ix2 r d)) (p2 (ix2 r d))
      (e0 (ix2 r d)) (e1 (ix2 r d)) (e2 (ix2 r d)) := by
  pointwise [merged]
  rfl

/-- One of three. -/
abbrev three (x0 x1 x2 : EReal) (p : Fin 3) : EReal := if p = 0 then x0 else if p = 1 then x1 else x2

/-- One element of one head's rows: the shifted softmax. -/
theorem head_at {j : ℕ} (hj : j < 65536) (q k v : Vec Ideal S256x128 .bf16) (o0 o1 o2 : Vec Ideal S1x1x256x128 .bf16)
    (l0 l1 l2 : Vec Ideal S1x1x256x128 .f32) (r : Fin 256) (d : Fin 128) :
    head (BitVec.ofNat 32 j) q k v o0 o1 o2 l0 l1 l2 (ix2 r d)
      = shifted (score q k r) (fun c => v (ix2 c d)) r (fun p => (p : ℕ) < j)
          (three (o0 (ix4 0 0 r d)) (o1 (ix4 0 0 r d)) (o2 (ix4 0 0 r d)))
          (three (l0 (ix4 0 0 r d)) (l1 (ix4 0 0 r d)) (l2 (ix4 0 0 r d))) := by
  unfold head
  rw [merged_at, values_at, weight_at, ownLog_at]
  rw [part_at hj (n := 0) (by omega), part_at hj (n := 1) (by omega), part_at hj (n := 2) (by omega)]
  rw [partLog_at hj (n := 0) (by omega), partLog_at hj (n := 1) (by omega), partLog_at hj (n := 2) (by omega)]
  rfl

end Cert.Kernel3Ideal.Merge

end
-- ==== Proof.MergeKernel.lean ====
module

public import proofs.«01_k».proof.Proof.MergeHead

/-! # What the attention merge leaves: the shifted softmax, element by element -/

@[expose] public section

set_option maxRecDepth 16384

noncomputable section

namespace Cert.Kernel3Ideal.Merge

open Cert.Kernel3Ideal Cert.Kernel3Ideal.Gen Idealize.ShloMosaic Idealize.SL.Sem
open Idealize.ShloMosaic.TcCoe
open Cert.Merge (element element_congr mergedOf)

/-- The sequence block that rows `b` of grid point `i` hold. -/
abbrev block (i : grid0.Coords) (b : BitVec 32) : BitVec 32 := Scalar.addi (Scalar.muli (BitVec.ofNat 32 (i 0).val) 2#32) b

set_option maxHeartbeats 4000000 in
/-- What the body stores: one head's rows after the other. -/
theorem out_eq (i : grid0.Coords) (x0 x1 x2 : Vec Ideal S512x1024 .bf16) (x3 : Vec Ideal S3x8x512x128 .bf16) (x4 : Vec Ideal S3x8x512x128 .f32) :
    out0_5 i x0 x1 x2 x3 x4 = View.canon [⟨r0_39, head (block i 1#32) (View.ld x0 r0_39) (View.ld x1 r0_39) (View.ld x2 r0_39) (View.ld x3 r0_61) (View.ld x3 r0_62) (View.ld x3 r0_63) (View.ld x4 r0_61) (View.ld x4 r0_62) (View.ld x4 r0_63)⟩,
    ⟨r0_38, head (block i 1#32) (View.ld x0 r0_38) (View.ld x1 r0_38) (View.ld x2 r0_38) (View.ld x3 r0_58) (View.ld x3 r0_59) (View.ld x3 r0_60) (View.ld x4 r0_58) (View.ld x4 r0_59) (View.ld x4 r0_60)⟩,
    ⟨r0_37, head (block i 1#32) (View.ld x0 r0_37) (View.ld x1 r0_37) (View.ld x2 r0_37) (View.ld x3 r0_55) (View.ld x3 r0_56) (View.ld x3 r0_57) (View.ld x4 r0_55) (View.ld x4 r0_56) (View.ld x4 r0_57)⟩,
    ⟨r0_36, head (block i 1#32) (View.ld x0 r0_36) (View.ld x1 r0_36) (View.ld x2 r0_36) (View.ld x3 r0_52) (View.ld x3 r0_53) (View.ld x3 r0_54) (View.ld x4 r0_52) (View.ld x4 r0_53) (View.ld x4 r0_54)⟩,
    ⟨r0_35, head (block i 1#32) (View.ld x0 r0_35) (View.ld x1 r0_35) (View.ld x2 r0_35) (View.ld x3 r0_49) (View.ld x3 r0_50) (View.ld x3 r0_51) (View.ld x4 r0_49) (View.ld x4 r0_50) (View.ld x4 r0_51)⟩,
    ⟨r0_34, head (block i 1#32) (View.ld x0 r0_34) (View.ld x1 r0_34) (View.ld x2 r0_34) (View.ld x3 r0_46) (View.ld x3 r0_47) (View.ld x3 r0_48) (View.ld x4 r0_46) (View.ld x4 r0_47) (View.ld x4 r0_48)⟩,
    ⟨r0_33, head (block i 1#32) (View.ld x0 r0_33) (View.ld x1 r0_33) (View.ld x2 r0_33) (View.ld x3 r0_43) (View.ld x3 r0_44) (View.ld x3 r0_45) (View.ld x4 r0_43) (View.ld x4 r0_44) (View.ld x4 r0_45)⟩,
    ⟨r0_32, head (block i 1#32) (View.ld x0 r0_32) (View.ld x1 r0_32) (View.ld x2 r0_32) (View.ld x3 r0_40) (View.ld x3 r0_41) (View.ld x3 r0_42) (View.ld x4 r0_40) (View.ld x4 r0_41) (View.ld x4 r0_42)⟩,
    ⟨r0_7, head (block i 0#32) (View.ld x0 r0_7) (View.ld x1 r0_7) (View.ld x2 r0_7) (View.ld x3 r0_29) (View.ld x3 r0_30) (View.ld x3 r0_31) (View.ld x4 r0_29) (View.ld x4 r0_30) (View.ld x4 r0_31)⟩,
    ⟨r0_6, head (block i 0#32) (View.ld x0 r0_6) (View.ld x1 r0_6) (View.ld x2 r0_6) (View.ld x3 r0_26) (View.ld x3 r0_27) (View.ld x3 r0_28) (View.ld x4 r0_26) (View.ld x4 r0_27) (View.ld x4 r0_28)⟩,
    ⟨r0_5, head (block i 0#32) (View.ld x0 r0_5) (View.ld x1 r0_5) (View.ld x2 r0_5) (View.ld x3 r0_23) (View.ld x3 r0_24) (View.ld x3 r0_25) (View.ld x4 r0_23) (View.ld x4 r0_24) (View.ld x4 r0_25)⟩,
    ⟨r0_4, head (block i 0#32) (View.ld x0 r0_4) (View.ld x1 r0_4) (View.ld x2 r0_4) (View.ld x3 r0_20) (View.ld x3 r0_21) (View.ld x3 r0_22) (View.ld x4 r0_20) (View.ld x4 r0_21) (View.ld x4 r0_22)⟩,
    ⟨r0_3, head (block i 0#32) (View.ld x0 r0_3) (View.ld x1 r0_3) (View.ld x2 r0_3) (View.ld x3 r0_17) (View.ld x3 r0_18) (View.ld x3 r0_19) (View.ld x4 r0_17) (View.ld x4 r0_18) (View.ld x4 r0_19)⟩,
    ⟨r0_2, head (block i 0#32) (View.ld x0 r0_2) (View.ld x1 r0_2) (View.ld x2 r0_2) (View.ld x3 r0_14) (View.ld x3 r0_15) (View.ld x3 r0_16) (View.ld x4 r0_14) (View.ld x4 r0_15) (View.ld x4 r0_16)⟩,
    ⟨r0_1, head (block i 0#32) (View.ld x0 r0_1) (View.ld x1 r0_1) (View.ld x2 r0_1) (View.ld x3 r0_11) (View.ld x3 r0_12) (View.ld x3 r0_13) (View.ld x4 r0_11) (View.ld x4 r0_12) (View.ld x4 r0_13)⟩,
    ⟨r0_0, head (block i 0#32) (View.ld x0 r0_0) (View.ld x1 r0_0) (View.ld x2 r0_0) (View.ld x3 r0_8) (View.ld x3 r0_9) (View.ld x3 r0_10) (View.ld x4 r0_8) (View.ld x4 r0_9) (View.ld x4 r0_10)⟩] := by
  rfl

/-- A cut of 256 rows and 128 columns, read at an index. -/
theorem ld_rows {p q : ℕ} (inb : ∀ a, (![p, q] : Fin 2 → Nat) a + S256x128.size a ≤ S512x1024.size a) (X : Vec Ideal S512x1024 .bf16)
    (r : Fin 256) (t : Fin 128) (a : Fin 512) (e : Fin 1024) (ha : (a : ℕ) = p + r) (he : (e : ℕ) = q + t) :
    (View.ld X (Rect.unit (s := S512x1024) ![p, q] S256x128.size inb) : Vec Ideal S256x128 .bf16) (ix2 r t) = X (ix2 a e) :=
  View.ld_unit_apply_of X _ _ inb (ix2 r t) (ix2 a e) fun z => by fin_cases z <;> assumption

/-- A cut of one partial result, read at an index. -/
theorem ld_part {φ : EltTy} {s h p : ℕ} (inb : ∀ a, (![s, h, p, 0] : Fin 4 → Nat) a + S1x1x256x128.size a ≤ S3x8x512x128.size a)
    (X : Vec Ideal S3x8x512x128 φ) (r : Fin 256) (t : Fin 128) (x0 : Fin 3) (x1 : Fin 8) (x2 : Fin 512) (x3 : Fin 128)
    (h0 : (x0 : ℕ) = s) (h1 : (x1 : ℕ) = h) (h2 : (x2 : ℕ) = p + r) (h3 : (x3 : ℕ) = t) :
    (View.ld X (Rect.unit (s := S3x8x512x128) ![s, h, p, 0] S1x1x256x128.size inb) : Vec Ideal S1x1x256x128 φ) (ix4 0 0 r t)
      = X (ix4 x0 x1 x2 x3) :=
  View.ld_unit_apply_of X _ _ inb (ix4 0 0 r t) (ix4 x0 x1 x2 x3) fun z => by
    fin_cases z
    · exact h0
    · exact h1
    · exact h2
    · exact h3.trans (Nat.zero_add _).symm

theorem block_word (i : grid0.Coords) (b : ℕ) : block i (BitVec.ofNat 32 b) = BitVec.ofNat 32 (2 * (i 0 : ℕ) + b) := by
  show BitVec.ofNat 32 (i 0 : ℕ) * BitVec.ofNat 32 2 + BitVec.ofNat 32 b = _
  rw [← BitVec.ofNat_mul, ← BitVec.ofNat_add, Nat.mul_comm]

/-- One head's rows of one sequence block: the model's element. -/
theorem at_head (i : grid0.Coords) (b h p q : ℕ) (hb : b < 2) (hh : h < 8) (hp : p = 256 * b) (hq : q = 128 * h)
    (ia : ∀ a, (![p, q] : Fin 2 → Nat) a + S256x128.size a ≤ S512x1024.size a)
    (i0 : ∀ a, (![0, h, p, 0] : Fin 4 → Nat) a + S1x1x256x128.size a ≤ S3x8x512x128.size a)
    (i1 : ∀ a, (![1, h, p, 0] : Fin 4 → Nat) a + S1x1x256x128.size a ≤ S3x8x512x128.size a)
    (i2 : ∀ a, (![2, h, p, 0] : Fin 4 → Nat) a + S1x1x256x128.size a ≤ S3x8x512x128.size a)
    (x0 x1 x2 : Vec Ideal S512x1024 .bf16) (x3 : Vec Ideal S3x8x512x128 .bf16) (x4 : Vec Ideal S3x8x512x128 .f32)
    (z : S256x128.Idx) (y0 : Fin 512) (y1 : Fin 1024) (h0 : (y0 : ℕ) = p + z 0) (h1 : (y1 : ℕ) = q + z 1) :
    head (block i (BitVec.ofNat 32 b)) (View.ld x0 (Rect.unit (s := S512x1024) ![p, q] S256x128.size ia))
        (View.ld x1 (Rect.unit (s := S512x1024) ![p, q] S256x128.size ia)) (View.ld x2 (Rect.unit (s := S512x1024) ![p, q] S256x128.size ia))
        (View.ld x3 (Rect.unit (s := S3x8x512x128) ![0, h, p, 0] S1x1x256x128.size i0))
        (View.ld x3 (Rect.unit (s := S3x8x512x128) ![1, h, p, 0] S1x1x256x128.size i1))
        (View.ld x3 (Rect.unit (s := S3x8x512x128) ![2, h, p, 0] S1x1x256x128.size i2))
        (View.ld x4 (Rect.unit (s := S3x8x512x128) ![0, h, p, 0] S1x1x256x128.size i0))
        (View.ld x4 (Rect.unit (s := S3x8x512x128) ![1, h, p, 0] S1x1x256x128.size i1))
        (View.ld x4 (Rect.unit (s := S3x8x512x128) ![2, h, p, 0] S1x1x256x128.size i2)) z
      = element (fun t => x0 (ix2 y0 ⟨y1 / 128 * 128 + t, by omega⟩))
          (fun c t => x1 (ix2 ⟨y0 / 256 * 256 + c, by omega⟩ ⟨y1 / 128 * 128 + t, by omega⟩))
          (fun c => x2 (ix2 ⟨y0 / 256 * 256 + c, by omega⟩ y1))
          ⟨y0 % 256, by omega⟩ (2 * (i 0 : ℕ) + y0 / 256)
          (fun s => x3 (ix4 s ⟨y1 / 128, by omega⟩ y0 ⟨y1 % 128, by omega⟩))
          (fun s => x4 (ix4 s ⟨y1 / 128, by omega⟩ y0 ⟨y1 % 128, by omega⟩)) := by
  have hi : (i 0 : ℕ) < 32 := (i 0).isLt
  idx_vars z
  have h0 : (y0 : ℕ) = p + z0 := h0
  have h1 : (y1 : ℕ) = q + z1 := h1
  rw [block_word]
  refine (head_at (by omega) _ _ _ _ _ _ _ _ _ z0 z1).trans ?_
  unfold element
  refine element_congr (n := 2 * (i 0 : ℕ) + b) (n' := 2 * (i 0 : ℕ) + (y0 : ℕ) / 256) (fun t => ?_) (fun c t => ?_) (fun c => ?_)
    (Fin.ext ?_) ?_ (fun s => ?_) (fun s => ?_)
  · exact ld_rows ia x0 z0 t _ _ h0 (by dsimp only; omega)
  · exact ld_rows ia x1 c t _ _ (by dsimp only; omega) (by dsimp only; omega)
  · exact ld_rows ia x2 c z1 _ _ (by dsimp only; omega) h1
  · dsimp only; omega
  · omega
  · fin_cases s
    · exact ld_part i0 x3 z0 z1 _ _ _ _ rfl (by dsimp only; omega) h0 (by dsimp only; omega)
    · exact ld_part i1 x3 z0 z1 _ _ _ _ rfl (by dsimp only; omega) h0 (by dsimp only; omega)
    · exact ld_part i2 x3 z0 z1 _ _ _ _ rfl (by dsimp only; omega) h0 (by dsimp only; omega)
  · fin_cases s
    · exact ld_part i0 x4 z0 z1 _ _ _ _ rfl (by dsimp only; omega) h0 (by dsimp only; omega)
    · exact ld_part i1 x4 z0 z1 _ _ _ _ rfl (by dsimp only; omega) h0 (by dsimp only; omega)
    · exact ld_part i2 x4 z0 z1 _ _ _ _ rfl (by dsimp only; omega) h0 (by dsimp only; omega)

/-- One grid point's block, element by element. -/
theorem block5 (i : grid0.Coords) (x0 x1 x2 : Vec Ideal S512x1024 .bf16) (x3 : Vec Ideal S3x8x512x128 .bf16) (x4 : Vec Ideal S3x8x512x128 .f32)
    (y0 : Fin 512) (y1 : Fin 1024) : out0_5 i x0 x1 x2 x3 x4 (ix2 y0 y1)
      = element (fun t => x0 (ix2 y0 ⟨y1 / 128 * 128 + t, by omega⟩))
          (fun c t => x1 (ix2 ⟨y0 / 256 * 256 + c, by omega⟩ ⟨y1 / 128 * 128 + t, by omega⟩))
          (fun c => x2 (ix2 ⟨y0 / 256 * 256 + c, by omega⟩ y1))
          ⟨y0 % 256, by omega⟩ (2 * (i 0 : ℕ) + y0 / 256)
          (fun s => x3 (ix4 s ⟨y1 / 128, by omega⟩ y0 ⟨y1 % 128, by omega⟩))
          (fun s => x4 (ix4 s ⟨y1 / 128, by omega⟩ y0 ⟨y1 % 128, by omega⟩)) := by
  rw [out_eq]
  canon_tiles x h using View.cover_of_tiledBy _ ![256, 128] (by sl_kernel_rfl) (ix2 y0 y1)
  case piece0 => exact at_head i 1 7 256 896 (by omega) (by omega) rfl rfl _ _ _ _ x0 x1 x2 x3 x4 x y0 y1 (by simpa using h0) (by simpa using h1)
  case piece1 => exact at_head i 1 6 256 768 (by omega) (by omega) rfl rfl _ _ _ _ x0 x1 x2 x3 x4 x y0 y1 (by simpa using h0) (by simpa using h1)
  case piece2 => exact at_head i 1 5 256 640 (by omega) (by omega) rfl rfl _ _ _ _ x0 x1 x2 x3 x4 x y0 y1 (by simpa using h0) (by simpa using h1)
  case piece3 => exact at_head i 1 4 256 512 (by omega) (by omega) rfl rfl _ _ _ _ x0 x1 x2 x3 x4 x y0 y1 (by simpa using h0) (by simpa using h1)
  case piece4 => exact at_head i 1 3 256 384 (by omega) (by omega) rfl rfl _ _ _ _ x0 x1 x2 x3 x4 x y0 y1 (by simpa using h0) (by simpa using h1)
  case piece5 => exact at_head i 1 2 256 256 (by omega) (by omega) rfl rfl _ _ _ _ x0 x1 x2 x3 x4 x y0 y1 (by simpa using h0) (by simpa using h1)
  case piece6 => exact at_head i 1 1 256 128 (by omega) (by omega) rfl rfl _ _ _ _ x0 x1 x2 x3 x4 x y0 y1 (by simpa using h0) (by simpa using h1)
  case piece7 => exact at_head i 1 0 256 0 (by omega) (by omega) rfl rfl _ _ _ _ x0 x1 x2 x3 x4 x y0 y1 (by simpa using h0) (by simpa using h1)
  case piece8 => exact at_head i 0 7 0 896 (by omega) (by omega) rfl rfl _ _ _ _ x0 x1 x2 x3 x4 x y0 y1 (by simpa using h0) (by simpa using h1)
  case piece9 => exact at_head i 0 6 0 768 (by omega) (by omega) rfl rfl _ _ _ _ x0 x1 x2 x3 x4 x y0 y1 (by simpa using h0) (by simpa using h1)
  case piece10 => exact at_head i 0 5 0 640 (by omega) (by omega) rfl rfl _ _ _ _ x0 x1 x2 x3 x4 x y0 y1 (by simpa using h0) (by simpa using h1)
  case piece11 => exact at_head i 0 4 0 512 (by omega) (by omega) rfl rfl _ _ _ _ x0 x1 x2 x3 x4 x y0 y1 (by simpa using h0) (by simpa using h1)
  case piece12 => exact at_head i 0 3 0 384 (by omega) (by omega) rfl rfl _ _ _ _ x0 x1 x2 x3 x4 x y0 y1 (by simpa using h0) (by simpa using h1)
  case piece13 => exact at_head i 0 2 0 256 (by omega) (by omega) rfl rfl _ _ _ _ x0 x1 x2 x3 x4 x y0 y1 (by simpa using h0) (by simpa using h1)
  case piece14 => exact at_head i 0 1 0 128 (by omega) (by omega) rfl rfl _ _ _ _ x0 x1 x2 x3 x4 x y0 y1 (by simpa using h0) (by simpa using h1)
  case piece15 => exact at_head i 0 0 0 0 (by omega) (by omega) rfl rfl _ _ _ _ x0 x1 x2 x3 x4 x y0 y1 (by simpa using h0) (by simpa using h1)

section Array

variable (m : (ℓ : Loc nD τ sig) → Buf (Elt Ideal) ℓ)

theorem idx : ∀ t : Fin cfg0.N, win0_0.index t = ![t.val, 0] ∧ win0_1.index t = ![t.val, 1] ∧ win0_2.index t = ![t.val, 2]
    ∧ win0_3.index t = ![0, 0, t.val, 0] ∧ win0_4.index t = ![0, 0, t.val, 0] ∧ win0_5.index t = ![t.val, 0]
    ∧ (grid0.coords t 0 : ℕ) = t.val := (by decide +kernel : ∀ t : Fin grid0.N, _)

/-- The result array after the run. -/
theorem final5 (c : Dev nD) : (dats m 0 c).arrAt 5 cfg0.N
    = mergedOf (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  refine (block5 _ _ _ _ _ _ y0 y1).trans ?_
  unfold mergedOf
  dsimp only
  refine element_congr ?_ ?_ ?_ ?_ ?_ ?_ ?_
  · intro k; blk_point [iblk, V, idx t]
  · intro k l; blk_point [iblk, V, idx t]
  · intro k; blk_point [iblk, V, idx t]
  · refine Fin.ext ?_
    blk_simp [idx t]
    dsimp only
    omega
  · blk_simp [idx t]
    try omega
  · intro k; blk_point [iblk, V, idx t]
  · intro k; blk_point [iblk, V, idx t]

end Array

end Cert.Kernel3Ideal.Merge

end
-- ==== Proof.MergeReference.lean ====
module

public import proofs.«01_k».proof.Proof.MergeModel
public import proofs.«01_k».proof.Proof.Gen.Reference3Ideal.Run
public import Idealize.ShloMosaic.Lib.Pipeline.ValueKit
public import Idealize.ShloMosaic.Lib.KernelVsHost

/-! # What the merge's reference computes: the plain softmax, element by element -/

@[expose] public section

set_option maxRecDepth 16384

noncomputable section

namespace Cert.Reference3Ideal.Merge

open Cert.Reference3Ideal Cert.Reference3Ideal.Gen Cert.Reference3Ideal.Value Idealize.ShloMosaic Idealize.SL.Sem
open Idealize.ShloMosaic.TcCoe
open Cert.Merge (two le_word two_of_exp softenedOf softened plain)

/-- The scores of every query with the keys of its own block. -/
def scores (x : FVec Ideal S16384x9216 .bf16) : FVec Ideal S64x8x256x256 .f32 :=
  Host.dotGeneral dot_S64x256x8x128_S64x256x8x128_S64x8x256x256_3_3_1_1_02_02 none (shapeCast _ (extf .f32 (extractStridedSlice S16384x1024 ![0, 0] x slices_S16384x9216_S16384x1024_0_0) bitsLt_bf16_f32) shapeCasts_S16384x1024_S64x256x8x128) (shapeCast _ (extf .f32 (extractStridedSlice S16384x1024 ![0, 1024] x slices_S16384x9216_S16384x1024_0_1024) bitsLt_bf16_f32) shapeCasts_S16384x1024_S64x256x8x128)

/-- Two to the scores, the keys to come left out. -/
def weights (x : FVec Ideal S16384x9216 .bf16) : FVec Ideal S64x8x256x256 .f32 :=
  select (broadcastInDim S64x8x256x256 ![2, 3] bcast_S256x256_S64x8x256x256_2_3 (cmpi .sle (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0))))) (Host.exp (mulf (scores x) (broadcastInDim S64x8x256x256 ![] bcast_S_S64x8x256x256 (Host.log (constant S_ .f32 0x40000000#32))))) (broadcastInDim S64x8x256x256 ![] bcast_S_S64x8x256x256 (id (constant S_ .f32 0x00000000#32)))

/-- Which partial results a row takes. -/
def used : IVec S3x8x16384x128 1 :=
  cmpi .sle (muli (broadcastInDim S3x8x16384x128 ![] bcast_S_S3x8x16384x128 (constantI S_ 32 256#32)) (addi (iotaInDim S3x8x16384x128 32 0) (broadcastInDim S3x8x16384x128 ![] bcast_S_S3x8x16384x128 (constantI S_ 32 1#32)))) (iotaInDim S3x8x16384x128 32 2)

/-- Two to the logarithms of the partial results taken. -/
def partWeights (l : FVec Ideal S3x8x16384x128 .f32) : FVec Ideal S3x8x16384x128 .f32 :=
  select used (Host.exp (mulf l (broadcastInDim S3x8x16384x128 ![] bcast_S_S3x8x16384x128 (Host.log (constant S_ .f32 0x40000000#32))))) (broadcastInDim S3x8x16384x128 ![] bcast_S_S3x8x16384x128 (id (constant S_ .f32 0x00000000#32)))

/-- The partial results taken. -/
def partValues (o : FVec Ideal S3x8x16384x128 .bf16) : FVec Ideal S3x8x16384x128 .f32 :=
  select used (extf .f32 o bitsLt_bf16_f32) (broadcastInDim S3x8x16384x128 ![] bcast_S_S3x8x16384x128 (id (constant S_ .f32 0x00000000#32)))

/-- The weighted values of the own block. -/
def own (x : FVec Ideal S16384x9216 .bf16) : FVec Ideal S16384x8x128 .f32 :=
  shapeCast _ (transpose S64x256x8x128 [0, 3, 1, 2] (Host.dotGeneral dot_S64x256x8x128_S64x8x256x256_S64x8x128x256_1_3_3_2_02_01 none (shapeCast _ (extf .f32 (extractStridedSlice S16384x1024 ![0, 2048] x slices_S16384x9216_S16384x1024_0_2048) bitsLt_bf16_f32) shapeCasts_S16384x1024_S64x256x8x128) (weights x)) transposes_S64x8x128x256_S64x256x8x128_0_3_1_2) shapeCasts_S64x256x8x128_S16384x8x128

/-- The sum of the own block's weights, in every lane. -/
def total (x : FVec Ideal S16384x9216 .bf16) : FVec Ideal S16384x8x128 .f32 :=
  broadcastInDim S16384x8x128 ![0, 1, 2] bcast_S16384x8x1_S16384x8x128_0_1_2 (shapeCast _ (transpose S64x256x8 [0, 2, 1] (Host.reduceAdd (weights x) (constant S_ .f32 0x00000000#32) reducesTo_S64x8x256x256_S64x8x256_d3 h_S_) transposes_S64x8x256_S64x256x8_0_2_1) shapeCasts_S64x256x8_S16384x8x1)

/-- The weighted partial results, added up. -/
def others (o : FVec Ideal S3x8x16384x128 .bf16) (l : FVec Ideal S3x8x16384x128 .f32) : FVec Ideal S16384x8x128 .f32 :=
  transpose S16384x8x128 [1, 0, 2] (Host.reduceAdd (mulf (partWeights l) (partValues o)) (constant S_ .f32 0x00000000#32) reducesTo_S3x8x16384x128_S8x16384x128_d0 h_S_) transposes_S8x16384x128_S16384x8x128_1_0_2

/-- The weights of the partial results, added up. -/
def rest (l : FVec Ideal S3x8x16384x128 .f32) : FVec Ideal S16384x8x128 .f32 :=
  transpose S16384x8x128 [1, 0, 2] (Host.reduceAdd (partWeights l) (constant S_ .f32 0x00000000#32) reducesTo_S3x8x16384x128_S8x16384x128_d0 h_S_) transposes_S8x16384x128_S16384x8x128_1_0_2

/-- The reference's result. -/
def whole (x : FVec Ideal S16384x9216 .bf16) (o : FVec Ideal S3x8x16384x128 .bf16) (l : FVec Ideal S3x8x16384x128 .f32) : FVec Ideal S16384x1024 .bf16 :=
  truncf .bf16 (shapeCast _ (Host.divf (addf (own x) (others o l)) (addf (total x) (rest l))) shapeCasts_S16384x8x128_S16384x1024) bitsLt_bf16_f32

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h, Ideal.log_coe, if_neg (by norm_num)]

theorem zero_word : (id (constant (F := Ideal) S_ .f32 0#32) ix0 : EReal) = 0 := Ideal.ofBits_zero_f32

section Terms

variable (x : FVec Ideal S16384x9216 .bf16) (o : FVec Ideal S3x8x16384x128 .bf16) (l : FVec Ideal S3x8x16384x128 .f32)

theorem weights_at (n : Fin 64) (h : Fin 8) (r c : Fin 256) : weights x (ix4 n h r c)
    = if (c : ℕ) ≤ r then two (∑ t : Fin 128, x (ix2 ⟨n * 256 + r, by omega⟩ ⟨h * 128 + t, by omega⟩)
        * x (ix2 ⟨n * 256 + c, by omega⟩ ⟨1024 + (h * 128 + t), by omega⟩)) else 0 := by
  have hs : scores x (ix4 n h r c) = ∑ t : Fin 128, x (ix2 ⟨n * 256 + r, by omega⟩ ⟨h * 128 + t, by omega⟩)
        * x (ix2 ⟨n * 256 + c, by omega⟩ ⟨1024 + (h * 128 + t), by omega⟩) := by pointwise [scores]
  pointwise [weights]
  rw [hs, log_two, two_of_exp]
  unfold Scalar.select
  exact if_congr (le_word (by omega) (by omega)) rfl zero_word

theorem used_at (s : Fin 3) (h : Fin 8) (r : Fin 16384) (d : Fin 128) : used (ix4 s h r d) = 1 ↔ (s : ℕ) < r / 256 := by
  have e : used (ix4 s h r d) = IntOp.cmpi .sle (BitVec.ofNat 32 (256 * (s + 1))) (BitVec.ofNat 32 r) := by
    rw [BitVec.ofNat_mul, BitVec.ofNat_add]
    rfl
  rw [e, le_word (by omega) (by omega)]
  omega

theorem partWeights_at (s : Fin 3) (h : Fin 8) (r : Fin 16384) (d : Fin 128) : partWeights l (ix4 s h r d)
    = if (s : ℕ) < r / 256 then two (l (ix4 s h r d)) else 0 := by
  pointwise [partWeights]
  rw [log_two, two_of_exp]
  unfold Scalar.select
  exact if_congr (used_at s h r d) rfl zero_word

theorem partValues_at (s : Fin 3) (h : Fin 8) (r : Fin 16384) (d : Fin 128) : partValues o (ix4 s h r d)
    = if (s : ℕ) < r / 256 then o (ix4 s h r d) else 0 := by
  pointwise [partValues]
  unfold Scalar.select
  exact if_congr (used_at s h r d) rfl zero_word

theorem whole_at (r : Fin 16384) (n : Fin 1024) : whole x o l (ix2 r n) = softenedOf x o l (ix2 r n) := by
  have row : ∀ t : Fin 128, x (ix2 ⟨r / 256 * 256 + r % 256, by omega⟩ ⟨n / 128 * 128 + t, by omega⟩) = x (ix2 r ⟨n / 128 * 128 + t, by omega⟩) :=
    fun t => congrArg (fun a => x (ix2 a _)) (Fin.ext (by dsimp only; omega))
  have col : ∀ c : Fin 256, x (ix2 ⟨r / 256 * 256 + c, by omega⟩ ⟨2048 + (n / 128 * 128 + n % 128), by omega⟩)
      = x (ix2 ⟨r / 256 * 256 + c, by omega⟩ ⟨2048 + n, by omega⟩) :=
    fun c => congrArg (fun a => x (ix2 _ a)) (Fin.ext (by dsimp only; omega))
  pointwise [whole, own, others, total, rest]
  simp only [weights_at, partWeights_at, partValues_at]
  unfold softenedOf softened plain
  dsimp only
  simp only [row, col]
  refine congrArg₂ Ideal.div (congrArg (· + _) (Finset.sum_congr rfl fun c _ => mul_comm _ _)) rfl

end Terms

/-- The composed term of the run, named piece by piece. -/
theorem res_eq (m : (ℓ : Loc nD τ sig) → Buf (Elt Ideal) ℓ) (c : Dev nD) :
    (res_out0 m c : FVec Ideal S16384x1024 .bf16)
      = whole (m ((c.tc : Thread nD τ).loc main_arg0)) (m ((c.tc : Thread nD τ).loc main_arg1)) (m ((c.tc : Thread nD τ).loc main_arg2)) := rfl

/-- The reference's run ends with the softmax of its arguments. -/
theorem res_is (m : (ℓ : Loc nD τ sig) → Buf (Elt Ideal) ℓ) (c : Dev nD) :
    (res_out0 m c : S16384x1024.Idx → EReal)
      = softenedOf (m ((c.tc : Thread nD τ).loc main_arg0)) (m ((c.tc : Thread nD τ).loc main_arg1)) (m ((c.tc : Thread nD τ).loc main_arg2)) := by
  refine (res_eq m c).trans (funext fun y => ?_)
  idx_vars y
  exact whole_at _ _ _ y0 y1

end Cert.Reference3Ideal.Merge

end
-- ==== Proof.MergePre.lean ====
module

public import proofs.«01_k».proof.Pre_finite
public import Idealize.ShloMosaic.Lib.ReduceAll
public import Idealize.ShloMosaic.Lib.Pipeline.ValueKit
public import proofs.«01_k».proof.Proof.MergeModel

/-! # What the merge's precondition says: the queries and keys are finite, the logarithms below infinity -/

@[expose] public section

set_option maxRecDepth 16384

noncomputable section

namespace Cert.Pre_finite.Merge

open Idealize.ShloMosaic Cert.Pre_finite
open Cert.Merge (le_word)

variable [Cert.Pre_finite.Facts]

theorem andi_one (a b : BitVec 1) : IntOp.andi a b = 1#1 ↔ a = 1#1 ∧ b = 1#1 := by revert a b; decide

theorem ori_left (a b : BitVec 1) : IntOp.ori a (~~~b) = 1#1 → b = 1#1 → a = 1#1 := by revert a b; decide

/-- The word for infinity. -/
theorem top_word : Ideal.ofBits FTy.f32 2139095040#32 = (⊤ : EReal) := by simp [Ideal.ofBits, Ideal.ieee]

/-- A comparison with infinity that holds. -/
theorem below (v : EReal) (h : BitVec.ofBool (decide (v < Ideal.ofBits FTy.f32 2139095040#32)) = 1#1) : v < ⊤ := by
  by_contra n
  have f : decide (v < Ideal.ofBits FTy.f32 2139095040#32) = false := by
    rw [top_word]
    exact decide_eq_false n
  rw [f] at h
  exact absurd h (by decide)

/-- A number whose absolute value is below infinity is real. -/
theorem real_of_below (v : EReal) (h : max v (-v) < ⊤) : ∃ z : ℝ, v = z := by
  have v1 : v ≠ ⊤ := fun e => absurd h (by rw [e]; simp)
  have v2 : v ≠ ⊥ := fun e => absurd h (by rw [e]; simp)
  exact ⟨v.toReal, (EReal.coe_toReal v1 v2).symm⟩

/-- A chosen block lies before the query's own block exactly when it ends at or before the query. -/
theorem taken {p s : ℕ} (hp : p < 3) (hs : s < 16384) (h : p < s / 256) :
    IntOp.cmpi CmpIPredicate.sle (IntOp.muli (256#32) (IntOp.addi (BitVec.ofNat 32 p) 1#32)) (BitVec.ofNat 32 s) = 1#1 := by
  have e : IntOp.muli (256#32) (IntOp.addi (BitVec.ofNat 32 p) 1#32) = BitVec.ofNat 32 (256 * (p + 1)) := by
    rw [BitVec.ofNat_mul, BitVec.ofNat_add]
    rfl
  rw [e]
  exact (le_word (by omega) (by omega)).mpr (by omega)

/-- Where the precondition holds, the queries and keys are real and the logarithms in use are below infinity. -/
theorem read (x : FVec Ideal S16384x9216 .bf16) (o : FVec Ideal S3x8x16384x128 .bf16) (l : FVec Ideal S3x8x16384x128 .f32)
    (h : fn (F := Ideal) x o l = fun _ => 1#1) :
    (∀ (s : Fin 16384) (n : Fin 9216), (n : ℕ) < 2048 → ∃ z : ℝ, x (ix2 s n) = z)
    ∧ (∀ (p : Fin 3) (h : Fin 8) (s : Fin 16384) (d : Fin 128), (p : ℕ) < s / 256 → (l (ix4 p h s d) : EReal) < ⊤) := by
  have e := congrFun h ix0
  simp only [fn, fn_part1, andi, andi_one] at e
  obtain ⟨e1, e2⟩ := e
  refine ⟨fun s n hn => ?_, fun p h s d hp => ?_⟩
  · have a := Host.reduce_andi_all _ _ _ _ _ e1 (ix2 s ⟨n, hn⟩)
    pointwise at a
    exact real_of_below _ (below _ a)
  · have a := Host.reduce_andi_all _ _ _ _ _ e2 (ix4 p h s d)
    pointwise at a
    exact below _ (ori_left _ _ a (taken p.2 s.2 hp))

end Cert.Pre_finite.Merge

end
-- ==== Proof.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.FfnKernel
public import proofs.«01_k».proof.Proof.FfnReference
public import proofs.«01_k».proof.Proof.ProjKernel
public import proofs.«01_k».proof.Proof.ProjReference
public import proofs.«01_k».proof.Proof.MergeKernel
public import proofs.«01_k».proof.Proof.MergeReference
public import proofs.«01_k».proof.Proof.MergePre
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference declares no semaphore. -/
theorem noSem (s : GSem Cert.ReferenceIdeal.nD Cert.ReferenceIdeal.τ Cert.ReferenceIdeal.sig) : False := by
  obtain ⟨a, s⟩ := s
  rcases s with s | s <;> exact s.elim0

/-- The mixing kernel and its reference compute the same array. -/
theorem mix : Cert.algebraic_KernelIdeal_ReferenceIdeal := by
  pair_intro
  · run_from Cert.KernelIdeal.Value.run_blocks m g
  · run_from Cert.ReferenceIdeal.Ffn.run m' g'
    exact (Cert.KernelIdeal.Ffn.final m c).symm

/-- The projection's reference declares no semaphore. -/
theorem noSem2 (s : GSem Cert.Reference2Ideal.nD Cert.Reference2Ideal.τ Cert.Reference2Ideal.sig) : False := by
  obtain ⟨a, s⟩ := s
  rcases s with s | s <;> exact s.elim0

/-- The projection kernel and its reference compute the same five arrays. -/
theorem proj : Cert.algebraic_Kernel2Ideal_Reference2Ideal := by
  pair_intro
  · run_from Cert.Kernel2Ideal.Value.run_blocks m g
  · run_from Cert.Reference2Ideal.Proj.run m' g'
    · exact (Cert.Kernel2Ideal.Proj.final4 m c).symm
    · exact (Cert.Kernel2Ideal.Proj.final5 m c).symm
    · exact (Cert.Kernel2Ideal.Proj.final6 m c).symm
    · exact (Cert.Kernel2Ideal.Proj.final7 m c).symm
    · exact (Cert.Kernel2Ideal.Proj.final8 m c).symm

/-- The merge's reference declares no semaphore. -/
theorem noSem3 (s : GSem Cert.Reference3Ideal.nD Cert.Reference3Ideal.τ Cert.Reference3Ideal.sig) : False := by
  obtain ⟨a, s⟩ := s
  rcases s with s | s <;> exact s.elim0

/-- The merge's reference runs, leaves its arguments and ends with nothing pending. -/
theorem reference3Frame : Cert.quiescent_Reference3Ideal := fun m g _ =>
  (θ_run _ _ _).mono (fun r h => ⟨fun c => (h c).2, funext fun s => (noSem3 s).elim⟩) (Cert.Reference3Ideal.Value.run m g)

/-- The merge kernel and its reference compute the same array where the precondition holds. -/
theorem merge : Cert.algebraic_Kernel3Ideal_Reference3Ideal_pre_finite := by
  pair_intro
  · run_from Cert.Kernel3Ideal.Value.run_blocks m g
  · run_from Cert.Reference3Ideal.Value.run m' g'
    obtain ⟨fx, fl⟩ := Cert.Pre_finite.Merge.read _ _ _ (hpre c)
    refine (Cert.Reference3Ideal.Merge.res_is m' c).trans ((Cert.Kernel3Ideal.Merge.final5 m c).trans ?_).symm
    rw [(hagree c).1, (hagree c).2.1, (hagree c).2.2]
    exact Cert.Merge.mergedOf_eq _ _ _ fx fl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m g _ => Cert.Kernel.Gen.frame m g, fun m g _ => Cert.KernelIdeal.Gen.frame m g,
  fun m g _ => (θ_run _ _ _).mono (fun r h => ⟨fun c => (h c).2, funext fun s => (noSem s).elim⟩)
    (Cert.ReferenceIdeal.Ffn.run m g),
  fun m g _ => Cert.Kernel2.Gen.frame m g, fun m g _ => Cert.Kernel2Ideal.Gen.frame m g,
  fun m g _ => (θ_run _ _ _).mono (fun r h => ⟨fun c => (h c).2.2.2.2.2, funext fun s => (noSem2 s).elim⟩)
    (Cert.Reference2Ideal.Proj.run m g),
  fun m g _ => Cert.Kernel3.Gen.frame m g, fun m g _ => Cert.Kernel3Ideal.Gen.frame m g,
  fun m g _ => Cert.Kernel3Ideal.Gen.frame m g, reference3Frame, fun m g _ => reference3Frame m g trivial,
  trivial, mix, trivial, proj,
  IdealRules.named_const.statement Cert.Kernel3Ideal.κ "log2_e" .f32 0x3FB8AA3B#32 (((Real.log 2)⁻¹ : ℝ) : EReal) rfl, merge⟩

end Cert.Proof

end
